-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x16x96 : Shape := ⟨4, ![4, 8192, 16, 96]⟩
abbrev S4x8192x8x96 : Shape := ⟨4, ![4, 8192, 8, 96]⟩
abbrev S4x8192x8x192 : Shape := ⟨4, ![4, 8192, 8, 192]⟩
abbrev S4x64x16 : Shape := ⟨3, ![4, 64, 16]⟩
abbrev S4x64x8 : Shape := ⟨3, ![4, 64, 8]⟩
abbrev S4x8192x16x192 : Shape := ⟨4, ![4, 8192, 16, 192]⟩
abbrev S4x8192x16 : Shape := ⟨3, ![4, 8192, 16]⟩
abbrev S4x16x96x8192 : Shape := ⟨4, ![4, 16, 96, 8192]⟩
abbrev S4x8x2x96x8192 : Shape := ⟨5, ![4, 8, 2, 96, 8192]⟩
abbrev S4x8x96x8192 : Shape := ⟨4, ![4, 8, 96, 8192]⟩
abbrev S4x8x192x8192 : Shape := ⟨4, ![4, 8, 192, 8192]⟩
abbrev S4x16x192x8192 : Shape := ⟨4, ![4, 16, 192, 8192]⟩
abbrev S4x8x2x192x8192 : Shape := ⟨5, ![4, 8, 2, 192, 8192]⟩
abbrev S4x16x8192 : Shape := ⟨3, ![4, 16, 8192]⟩
abbrev S4x8x2x8192 : Shape := ⟨4, ![4, 8, 2, 8192]⟩
abbrev S1x1x2x96x8192 : Shape := ⟨5, ![1, 1, 2, 96, 8192]⟩
abbrev S1x1x96x8192 : Shape := ⟨4, ![1, 1, 96, 8192]⟩
abbrev S1x1x192x8192 : Shape := ⟨4, ![1, 1, 192, 8192]⟩
abbrev S1x1x2x192x8192 : Shape := ⟨5, ![1, 1, 2, 192, 8192]⟩
abbrev S1x1x2x8192 : Shape := ⟨4, ![1, 1, 2, 8192]⟩
abbrev S64x96x192 : Shape := ⟨3, ![64, 96, 192]⟩
abbrev S96x192 : Shape := ⟨2, ![96, 192]⟩
abbrev S192x96 : Shape := ⟨2, ![192, 96]⟩
abbrev S128x256 : Shape := ⟨2, ![128, 256]⟩
abbrev S1x96x192 : Shape := ⟨3, ![1, 96, 192]⟩
abbrev S1x1x1 : Shape := ⟨3, ![1, 1, 1]⟩
abbrev S1x1x96x128 : Shape := ⟨4, ![1, 1, 96, 128]⟩
abbrev S96x128 : Shape := ⟨2, ![96, 128]⟩
abbrev S1x1x192x128 : Shape := ⟨4, ![1, 1, 192, 128]⟩
abbrev S192x128 : Shape := ⟨2, ![192, 128]⟩
abbrev S1x1x1x96x128 : Shape := ⟨5, ![1, 1, 1, 96, 128]⟩
abbrev S96x256 : Shape := ⟨2, ![96, 256]⟩
abbrev S1x1x1x192x128 : Shape := ⟨5, ![1, 1, 1, 192, 128]⟩
abbrev S192x256 : Shape := ⟨2, ![192, 256]⟩
abbrev S1x1x1x128 : Shape := ⟨4, ![1, 1, 1, 128]⟩
abbrev S1x128 : Shape := ⟨2, ![1, 128]⟩
abbrev S1x256 : Shape := ⟨2, ![1, 256]⟩
abbrev S128x192 : Shape := ⟨2, ![128, 192]⟩
abbrev S128x96 : Shape := ⟨2, ![128, 96]⟩
abbrev S128x128 : Shape := ⟨2, ![128, 128]⟩

abbrev nBuf : Space → Nat
  | .hbm => 23
  | .vmem => 20
  | .smem => 3
  | _ => 0

abbrev bufTy : (tb : Table) → Fin (tcTables nBuf tb) → BufTy
  | .hbm, ⟨0, _⟩ => ⟨S4x8192x16x96, .fp8e4m3⟩
  | .hbm, ⟨1, _⟩ => ⟨S4x8192x8x96, .fp8e4m3⟩
  | .hbm, ⟨2, _⟩ => ⟨S4x8192x8x192, .fp8e4m3⟩
  | .hbm, ⟨3, _⟩ => ⟨S4x64x16, .f32⟩
  | .hbm, ⟨4, _⟩ => ⟨S4x64x8, .f32⟩
  | .hbm, ⟨5, _⟩ => ⟨S4x64x8, .f32⟩
  | .hbm, ⟨6, _⟩ => ⟨S4x8192x16x192, .fp8e5m2⟩
  | .hbm, ⟨7, _⟩ => ⟨S4x8192x16, .f32⟩
  | .hbm, ⟨8, _⟩ => ⟨S4x16x96x8192, .fp8e4m3⟩
  | .hbm, ⟨9, _⟩ => ⟨S4x8x2x96x8192, .fp8e4m3⟩
  | .hbm, ⟨10, _⟩ => ⟨S4x8x96x8192, .fp8e4m3⟩
  | .hbm, ⟨11, _⟩ => ⟨S4x8x192x8192, .fp8e4m3⟩
  | .hbm, ⟨12, _⟩ => ⟨S4x16x192x8192, .fp8e5m2⟩
  | .hbm, ⟨13, _⟩ => ⟨S4x8x2x192x8192, .fp8e5m2⟩
  | .hbm, ⟨14, _⟩ => ⟨S4x16x8192, .f32⟩
  | .hbm, ⟨15, _⟩ => ⟨S4x8x2x8192, .f32⟩
  | .hbm, ⟨16, _⟩ => ⟨S4x8x2x96x8192, .bf16⟩
  | .hbm, ⟨17, _⟩ => ⟨S4x8x96x8192, .bf16⟩
  | .hbm, ⟨18, _⟩ => ⟨S4x8x192x8192, .bf16⟩
  | .hbm, ⟨19, _⟩ => ⟨S4x16x96x8192, .bf16⟩
  | .hbm, ⟨20, _⟩ => ⟨S4x8192x16x96, .bf16⟩
  | .hbm, ⟨21, _⟩ => ⟨S4x8192x8x96, .bf16⟩
  | .hbm, ⟨22, _⟩ => ⟨S4x8192x8x192, .bf16⟩
  | .local _ .vmem, ⟨0, _⟩ => ⟨S1x1x2x96x8192, .fp8e4m3⟩
  | .local _ .vmem, ⟨1, _⟩ => ⟨S1x1x2x96x8192, .fp8e4m3⟩
  | .local _ .vmem, ⟨2, _⟩ => ⟨S1x1x96x8192, .fp8e4m3⟩
  | .local _ .vmem, ⟨3, _⟩ => ⟨S1x1x96x8192, .fp8e4m3⟩
  | .local _ .vmem, ⟨4, _⟩ => ⟨S1x1x192x8192, .fp8e4m3⟩
  | .local _ .vmem, ⟨5, _⟩ => ⟨S1x1x192x8192, .fp8e4m3⟩
  | .local _ .vmem, ⟨6, _⟩ => ⟨S1x1x2x192x8192, .fp8e5m2⟩
  | .local _ .vmem, ⟨7, _⟩ => ⟨S1x1x2x192x8192, .fp8e5m2⟩
  | .local _ .vmem, ⟨8, _⟩ => ⟨S1x1x2x8192, .f32⟩
  | .local _ .vmem, ⟨9, _⟩ => ⟨S1x1x2x8192, .f32⟩
  | .local _ .vmem, ⟨10, _⟩ => ⟨S1x1x2x96x8192, .bf16⟩
  | .local _ .vmem, ⟨11, _⟩ => ⟨S1x1x2x96x8192, .bf16⟩
  | .local _ .vmem, ⟨12, _⟩ => ⟨S1x1x96x8192, .bf16⟩
  | .local _ .vmem, ⟨13, _⟩ => ⟨S1x1x96x8192, .bf16⟩
  | .local _ .vmem, ⟨14, _⟩ => ⟨S1x1x192x8192, .bf16⟩
  | .local _ .vmem, ⟨15, _⟩ => ⟨S1x1x192x8192, .bf16⟩
  | .local _ .vmem, ⟨16, _⟩ => ⟨S64x96x192, .bf16⟩
  | .local _ .vmem, ⟨17, _⟩ => ⟨S96x192, .f32⟩
  | .local _ .vmem, ⟨18, _⟩ => ⟨S192x96, .f32⟩
  | .local _ .vmem, ⟨19, _⟩ => ⟨S128x256, .bf16⟩
  | .local _ .smem, ⟨0, _⟩ => ⟨S4x64x16, .f32⟩
  | .local _ .smem, ⟨1, _⟩ => ⟨S4x64x8, .f32⟩
  | .local _ .smem, ⟨2, _⟩ => ⟨S4x64x8, .f32⟩
  | _, _ => ⟨S4x8192x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_8 : BitVec 32 := 0#32
  let c64_i32 : BitVec 32 := 64#32
  let v30 : BitVec 32 := Scalar.addi c0_i32_8 c64_i32
  let c1_i32_9 : BitVec 32 := 1#32
  ⟨c0_i32_8, v30, c1_i32_9⟩
def k0_off1 (k0_t1 : Fin k0_t1_loop.trips) : Fin 3 → Nat :=
  let c0_i32_8 : BitVec 32 := 0#32
  let c1_i32_9 : BitVec 32 := 1#32
  let arg17 : BitVec 32 := Scf.iv c0_i32_8 c1_i32_9 k0_t1
  let v38 : Index := Scalar.indexCast arg17
  let c0_20 : Index := 0#32
  let c0_21 : Index := 0#32
  ![v38.toNat, 0, 0]
def k0_off2 (i : grid0.Coords) (k0_t1 : Fin k0_t1_loop.trips) : Fin 3 → Nat :=
  let arg0 : BitVec 32 := BitVec.ofNat 32 (i 0).val
  let v42 : Index := Scalar.indexCast arg0
  let c0_i32_8 : BitVec 32 := 0#32
  let c1_i32_9 : BitVec 32 := 1#32
  let arg17 : BitVec 32 := Scf.iv c0_i32_8 c1_i32_9 k0_t1
  let v43 : Index := Scalar.indexCast arg17
  let arg1 : BitVec 32 := BitVec.ofNat 32 (i 1).val
  let v44 : Index := Scalar.indexCast arg1
  ![v42.toNat, v43.toNat, v44.toNat]
def k0_mult1 (k0_t1 : Fin k0_t1_loop.trips) : BitVec 32 :=
  let c0_i32_8 : BitVec 32 := 0#32
  let c1_i32_9 : BitVec 32 := 1#32
  let arg17 : BitVec 32 := Scf.iv c0_i32_8 c1_i32_9 k0_t1
  let c128_i32_22 : BitVec 32 := 128#32
  let v51 : BitVec 32 := Scalar.muli arg17 c128_i32_22
  v51
def k0_off3 (k0_t1 : Fin k0_t1_loop.trips) : Fin 4 → Nat :=
  let c0_23 : Index := 0#32
  let c0_24 : Index := 0#32
  let c0_25 : Index := 0#32
  let c0_i32_8 : BitVec 32 := 0#32
  let c1_i32_9 : BitVec 32 := 1#32
  let arg17 : BitVec 32 := Scf.iv c0_i32_8 c1_i32_9 k0_t1
  let c128_i32_22 : BitVec 32 := 128#32
  let v51 : BitVec 32 := Scalar.muli arg17 c128_i32_22
  let v52 : BitVec 32 := v51
  let v53 : Index := Scalar.indexCast v52
  ![0, 0, 0, v53.toNat]
def k0_mult2 (k0_t1 : Fin k0_t1_loop.trips) : BitVec 32 :=
  let c0_i32_8 : BitVec 32 := 0#32
  let c1_i32_9 : BitVec 32 := 1#32
  let arg17 : BitVec 32 := Scf.iv c0_i32_8 c1_i32_9 k0_t1
  let c128_i32_26 : BitVec 32 := 128#32
  let v56 : BitVec 32 := Scalar.muli arg17 c128_i32_26
  v56
def k0_off4 (k0_t1 : Fin k0_t1_loop.trips) : Fin 4 → Nat :=
  let c0_27 : Index := 0#32
  let c0_28 : Index := 0#32
  let c0_29 : Index := 0#32
  let c0_i32_8 : BitVec 32 := 0#32
  let c1_i32_9 : BitVec 32 := 1#32
  let arg17 : BitVec 32 := Scf.iv c0_i32_8 c1_i32_9 k0_t1
  let c128_i32_26 : BitVec 32 := 128#32
  let v56 : BitVec 32 := Scalar.muli arg17 c128_i32_26
  let v57 : BitVec 32 := v56
  let v58 : Index := Scalar.indexCast v57
  ![0, 0, 0, v58.toNat]
@[reducible] def k0_t2_loop : Scf.Loop 32 :=
  let c0_i32_14 : BitVec 32 := 0#32
  let c64_i32_15 : BitVec 32 := 64#32
  let v35 : BitVec 32 := Scalar.addi c0_i32_14 c64_i32_15
  let c1_i32_16 : BitVec 32 := 1#32
  ⟨c0_i32_14, v35, c1_i32_16⟩
def k0_mult3 (k0_t2 : Fin k0_t2_loop.trips) : BitVec 32 :=
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  v37
def k0_off5 (i : grid0.Coords) (k0_t2 : Fin k0_t2_loop.trips) : Fin 3 → Nat :=
  let arg0 : BitVec 32 := BitVec.ofNat 32 (i 0).val
  let v39 : Index := Scalar.indexCast arg0
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let v40 : Index := Scalar.indexCast v36
  let arg1 : BitVec 32 := BitVec.ofNat 32 (i 1).val
  let v41 : Index := Scalar.indexCast arg1
  ![v39.toNat, v40.toNat, v41.toNat]
def k0_off6 (k0_t2 : Fin k0_t2_loop.trips) : Fin 4 → Nat :=
  let c0_19 : Index := 0#32
  let c0_20 : Index := 0#32
  let c0_21 : Index := 0#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v47 : Index := Scalar.indexCast v38
  ![0, 0, 0, v47.toNat]
def k0_off7 (k0_t2 : Fin k0_t2_loop.trips) : Fin 4 → Nat :=
  let c0_22 : Index := 0#32
  let c0_23 : Index := 0#32
  let c0_24 : Index := 0#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v50 : Index := Scalar.indexCast v38
  ![0, 0, 0, v50.toNat]
def k0_off8 (k0_t2 : Fin k0_t2_loop.trips) : Fin 5 → Nat :=
  let c0_25 : Index := 0#32
  let c0_26 : Index := 0#32
  let c0_27 : Index := 0#32
  let c0_28 : Index := 0#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v61 : Index := Scalar.indexCast v38
  ![0, 0, 0, 0, v61.toNat]
def k0_off9 (k0_t2 : Fin k0_t2_loop.trips) : Fin 5 → Nat :=
  let c0_29 : Index := 0#32
  let c0_30 : Index := 0#32
  let c1 : Index := 1#32
  let c0_31 : Index := 0#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v64 : Index := Scalar.indexCast v38
  ![0, 0, 1, 0, v64.toNat]
def k0_off10 (k0_t2 : Fin k0_t2_loop.trips) : Fin 5 → Nat :=
  let c0_32 : Index := 0#32
  let c0_33 : Index := 0#32
  let c0_34 : Index := 0#32
  let c0_35 : Index := 0#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v68 : Index := Scalar.indexCast v38
  ![0, 0, 0, 0, v68.toNat]
def k0_off11 (k0_t2 : Fin k0_t2_loop.trips) : Fin 5 → Nat :=
  let c0_36 : Index := 0#32
  let c0_37 : Index := 0#32
  let c1_38 : Index := 1#32
  let c0_39 : Index := 0#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v71 : Index := Scalar.indexCast v38
  ![0, 0, 1, 0, v71.toNat]
def k0_off12 (k0_t2 : Fin k0_t2_loop.trips) : Fin 4 → Nat :=
  let c0_40 : Index := 0#32
  let c0_41 : Index := 0#32
  let c0_42 : Index := 0#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v75 : Index := Scalar.indexCast v38
  ![0, 0, 0, v75.toNat]
def k0_off13 (k0_t2 : Fin k0_t2_loop.trips) : Fin 4 → Nat :=
  let c0_43 : Index := 0#32
  let c0_44 : Index := 0#32
  let c1_45 : Index := 1#32
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let c128_i32_18 : BitVec 32 := 128#32
  let v37 : BitVec 32 := Scalar.muli v36 c128_i32_18
  let v38 : BitVec 32 := v37
  let v78 : Index := Scalar.indexCast v38
  ![0, 0, 1, v78.toNat]
def k0_off14 (i : grid0.Coords) (k0_t2 : Fin k0_t2_loop.trips) (c0_i32_46 : BitVec 32) : Fin 3 → Nat :=
  let arg0 : BitVec 32 := BitVec.ofNat 32 (i 0).val
  let v84 : Index := Scalar.indexCast arg0
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let v85 : Index := Scalar.indexCast v36
  let c2_i32 : BitVec 32 := 2#32
  let arg1 : BitVec 32 := BitVec.ofNat 32 (i 1).val
  let v82 : BitVec 32 := Scalar.muli c2_i32 arg1
  let v83 : BitVec 32 := Scalar.addi v82 c0_i32_46
  let v86 : Index := Scalar.indexCast v83
  ![v84.toNat, v85.toNat, v86.toNat]
def k0_off15 (k0_t2 : Fin k0_t2_loop.trips) : Fin 3 → Nat :=
  let c63_i32 : BitVec 32 := 63#32
  let c0_i32_14 : BitVec 32 := 0#32
  let c1_i32_16 : BitVec 32 := 1#32
  let arg17 : BitVec 32 := Scf.iv c0_i32_14 c1_i32_16 k0_t2
  let v36 : BitVec 32 := Scalar.subi c63_i32 arg17
  let v142 : Index := Scalar.indexCast v36
  let c0_63 : Index := 0#32
  let c0_64 : Index := 0#32
  ![v142.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S4x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4x64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2x96x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x96x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x192x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x192x8192 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x96x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x96x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x192x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x8192x16x96 : Shape := ⟨4, ![4, 8192, 16, 96]⟩
abbrev S4x8192x8x96 : Shape := ⟨4, ![4, 8192, 8, 96]⟩
abbrev S4x8192x8x192 : Shape := ⟨4, ![4, 8192, 8, 192]⟩
abbrev S4x64x16 : Shape := ⟨3, ![4, 64, 16]⟩
abbrev S4x64x8 : Shape := ⟨3, ![4, 64, 8]⟩
abbrev S4x8192x16x192 : Shape := ⟨4, ![4, 8192, 16, 192]⟩
abbrev S4x8192x16 : Shape := ⟨3, ![4, 8192, 16]⟩
abbrev S4x64x128x8x2x96 : Shape := ⟨6, ![4, 64, 128, 8, 2, 96]⟩
abbrev S4x64x128x8x96 : Shape := ⟨5, ![4, 64, 128, 8, 96]⟩
abbrev S4x64x128x8x192 : Shape := ⟨5, ![4, 64, 128, 8, 192]⟩
abbrev S4x64x128x8x2x192 : Shape := ⟨6, ![4, 64, 128, 8, 2, 192]⟩
abbrev S4x64x8x2 : Shape := ⟨4, ![4, 64, 8, 2]⟩
abbrev S4x64x128x8x2 : Shape := ⟨5, ![4, 64, 128, 8, 2]⟩
abbrev S4x64x1x8x2x1 : Shape := ⟨6, ![4, 64, 1, 8, 2, 1]⟩
abbrev S4x64x1x8x1 : Shape := ⟨5, ![4, 64, 1, 8, 1]⟩
abbrev S4x64x128x8x2x1 : Shape := ⟨6, ![4, 64, 128, 8, 2, 1]⟩
abbrev S4x64x8x96x192 : Shape := ⟨5, ![4, 64, 8, 96, 192]⟩
abbrev S4x64x8x1x1 : Shape := ⟨5, ![4, 64, 8, 1, 1]⟩
abbrev S_ : Shape := ⟨0, ![]⟩
abbrev S4x63x8x96x192 : Shape := ⟨5, ![4, 63, 8, 96, 192]⟩
abbrev S128x128 : Shape := ⟨2, ![128, 128]⟩
abbrev S4x64x8x128x128x2 : Shape := ⟨6, ![4, 64, 8, 128, 128, 2]⟩
abbrev S4x64x8x2x128x128 : Shape := ⟨6, ![4, 64, 8, 2, 128, 128]⟩
abbrev S4x64x8x2x128 : Shape := ⟨5, ![4, 64, 8, 2, 128]⟩
abbrev S4x64x8x2x128x1 : Shape := ⟨6, ![4, 64, 8, 2, 128, 1]⟩
abbrev S4x64x8x1x1x1 : Shape := ⟨6, ![4, 64, 8, 1, 1, 1]⟩
abbrev S4x64x8x2x1x1 : Shape := ⟨6, ![4, 64, 8, 2, 1, 1]⟩
abbrev S4x64x8x96x128x2 : Shape := ⟨6, ![4, 64, 8, 96, 128, 2]⟩
abbrev S4x64x8x96x2x128 : Shape := ⟨6, ![4, 64, 8, 96, 2, 128]⟩
abbrev S4x64x8x96x128 : Shape := ⟨5, ![4, 64, 8, 96, 128]⟩
abbrev S4x64x8x192x128 : Shape := ⟨5, ![4, 64, 8, 192, 128]⟩

abbrev nBuf : Space → Nat
  | .hbm => 126
  | .vmem => 8
  | .smem => 0
  | _ => 0

abbrev bufTy : (tb : Table) → Fin (tcTables nBuf tb) → BufTy
  | .hbm, ⟨0, _⟩ => ⟨S4x8192x16x96, .fp8e4m3⟩
  | .hbm, ⟨1, _⟩ => ⟨S4x8192x8x96, .fp8e4m3⟩
  | .hbm, ⟨2, _⟩ => ⟨S4x8192x8x192, .fp8e4m3⟩
  | .hbm, ⟨3, _⟩ => ⟨S4x64x16, .f32⟩
  | .hbm, ⟨4, _⟩ => ⟨S4x64x8, .f32⟩
  | .hbm, ⟨5, _⟩ => ⟨S4x64x8, .f32⟩
  | .hbm, ⟨6, _⟩ => ⟨S4x8192x16x192, .fp8e5m2⟩
  | .hbm, ⟨7, _⟩ => ⟨S4x8192x16, .f32⟩
  | .hbm, ⟨8, _⟩ => ⟨S4x8192x16x96, .bf16⟩
  | .hbm, ⟨9, _⟩ => ⟨S4x8192x8x96, .bf16⟩
  | .hbm, ⟨10, _⟩ => ⟨S4x8192x8x192, .bf16⟩
  | .hbm, ⟨11, _⟩ => ⟨S4x8192x16x192, .bf16⟩
  | .hbm, ⟨12, _⟩ => ⟨S4x64x128x8x2x96, .bf16⟩
  | .hbm, ⟨13, _⟩ => ⟨S4x64x128x8x96, .bf16⟩
  | .hbm, ⟨14, _⟩ => ⟨S4x64x128x8x192, .bf16⟩
  | .hbm, ⟨15, _⟩ => ⟨S4x64x128x8x2x192, .bf16⟩
  | .hbm, ⟨16, _⟩ => ⟨S4x64x8x2, .f32⟩
  | .hbm, ⟨17, _⟩ => ⟨S4x64x128x8x2, .f32⟩
  | .hbm, ⟨18, _⟩ => ⟨S4x64x1x8x2x1, .f32⟩
  | .hbm, ⟨19, _⟩ => ⟨S4x64x1x8x2x1, .bf16⟩
  | .hbm, ⟨20, _⟩ => ⟨S4x64x128x8x2x96, .bf16⟩
  | .hbm, ⟨21, _⟩ => ⟨S4x64x128x8x2x96, .bf16⟩
  | .hbm, ⟨22, _⟩ => ⟨S4x64x1x8x1, .f32⟩
  | .hbm, ⟨23, _⟩ => ⟨S4x64x1x8x1, .bf16⟩
  | .hbm, ⟨24, _⟩ => ⟨S4x64x128x8x96, .bf16⟩
  | .hbm, ⟨25, _⟩ => ⟨S4x64x128x8x96, .bf16⟩
  | .hbm, ⟨26, _⟩ => ⟨S4x64x1x8x1, .f32⟩
  | .hbm, ⟨27, _⟩ => ⟨S4x64x1x8x1, .bf16⟩
  | .hbm, ⟨28, _⟩ => ⟨S4x64x128x8x192, .bf16⟩
  | .hbm, ⟨29, _⟩ => ⟨S4x64x128x8x192, .bf16⟩
  | .hbm, ⟨30, _⟩ => ⟨S4x64x128x8x2x1, .f32⟩
  | .hbm, ⟨31, _⟩ => ⟨S4x64x128x8x2x1, .bf16⟩
  | .hbm, ⟨32, _⟩ => ⟨S4x64x128x8x2x192, .bf16⟩
  | .hbm, ⟨33, _⟩ => ⟨S4x64x128x8x2x192, .bf16⟩
  | .hbm, ⟨34, _⟩ => ⟨S4x64x8x96x192, .f32⟩
  | .hbm, ⟨35, _⟩ => ⟨S4x64x8, .f32⟩
  | .hbm, ⟨36, _⟩ => ⟨S4x64x8x1x1, .f32⟩
  | .hbm, ⟨37, _⟩ => ⟨S4x64x8x96x192, .f32⟩
  | .hbm, ⟨38, _⟩ => ⟨S4x64x8x96x192, .f32⟩
  | .hbm, ⟨39, _⟩ => ⟨S4x64x8x96x192, .f32⟩
  | .hbm, ⟨40, _⟩ => ⟨S_, .f32⟩
  | .hbm, ⟨41, _⟩ => ⟨S_, .f32⟩
  | .hbm, ⟨42, _⟩ => ⟨S4x64x8x96x192, .f32⟩
  | .hbm, ⟨43, _⟩ => ⟨S4x63x8x96x192, .f32⟩
  | .hbm, ⟨44, _⟩ => ⟨S_, .i32⟩
  | .hbm, ⟨45, _⟩ => ⟨S_, .f32⟩
  | .hbm, ⟨46, _⟩ => ⟨S4x64x8x96x192, .f32⟩
  | .hbm, ⟨47, _⟩ => ⟨S_, .f32⟩
  | .hbm, ⟨48, _⟩ => ⟨S_, .f32⟩
  | .hbm, ⟨49, _⟩ => ⟨S4x64x8x96x192, .f32⟩
  | .hbm, ⟨50, _⟩ => ⟨S4x63x8x96x192, .f32⟩
  | .hbm, ⟨51, _⟩ => ⟨S_, .i32⟩
  | .hbm, ⟨52, _⟩ => ⟨S_, .f32⟩
  | .hbm, ⟨53, _⟩ => ⟨S4x64x8x96x192, .f32⟩
  | .hbm, ⟨54, _⟩ => ⟨S4x64x8x96x192, .bf16⟩
  | .hbm, ⟨55, _⟩ => ⟨S4x64x8x96x192, .bf16⟩
  | .hbm, ⟨56, _⟩ => ⟨S_, .i1⟩
  | .hbm, ⟨57, _⟩ => ⟨S128x128, .i1⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S4x64x8x128x128x2, .f32⟩
  | .hbm, ⟨68, _⟩ => ⟨S4x64x8x2x128x128, .f32⟩
  | .hbm, ⟨69, _⟩ => ⟨S4x64x8x2x128, .f32⟩
  | .hbm, ⟨70, _⟩ => ⟨S4x64x8x2x128x1, .f32⟩
  | .hbm, ⟨71, _⟩ => ⟨S4x64x8x2x128x128, .f32⟩
  | .hbm, ⟨72, _⟩ => ⟨S4x64x8x2x128x128, .f32⟩
  | .hbm, ⟨73, _⟩ => ⟨S4x64x8x1x1x1, .f32⟩
  | .hbm, ⟨74, _⟩ => ⟨S4x64x8x2x128x128, .f32⟩
  | .hbm, ⟨75, _⟩ => ⟨S4x64x8x2x128x128, .f32⟩
  | .hbm, ⟨76, _⟩ => ⟨S_, .f32⟩
  | .hbm, ⟨77, _⟩ => ⟨S_, .f32⟩
  | .hbm, ⟨78, _⟩ => ⟨S4x64x8x2x128x128, .i1⟩
  | .hbm, ⟨79, _⟩ => ⟨S4x64x8x2x128x128, .f32⟩
  | .hbm, ⟨80, _⟩ => ⟨S4x64x8x2x128x128, .f32⟩
  | .hbm, ⟨81, _⟩ => ⟨S4x64x8x2x128x128, .bf16⟩
  | .hbm, ⟨82, _⟩ => ⟨S4x64x8x128x128x2, .f32⟩
  | .hbm, ⟨83, _⟩ => ⟨S4x64x8x2x128x128, .f32⟩
  | .hbm, ⟨84, _⟩ => ⟨S4x64x8x2x1x1, .f32⟩
  | .hbm, ⟨85, _⟩ => ⟨S4x64x8x1x1x1, .f32⟩
  | .hbm, ⟨86, _⟩ => ⟨S4x64x8x2x1x1, .f32⟩
  | .hbm, ⟨87, _⟩ => ⟨S4x64x8x2x1x1, .f32⟩
  | .hbm, ⟨88, _⟩ => ⟨S4x64x8x2x128x128, .f32⟩
  | .hbm, ⟨89, _⟩ => ⟨S4x64x8x2x128x128, .f32⟩
  | .hbm, ⟨90, _⟩ => ⟨S_, .f32⟩
  | .hbm, ⟨91, _⟩ => ⟨S_, .f32⟩
  | .hbm, ⟨92, _⟩ => ⟨S4x64x8x2x128x128, .i1⟩
  | .hbm, ⟨93, _⟩ => ⟨S4x64x8x2x128x128, .f32⟩
  | .hbm, ⟨94, _⟩ => ⟨S4x64x8x2x128x128, .f32⟩
  | .hbm, ⟨95, _⟩ => ⟨S4x64x8x2x128x128, .bf16⟩
  | .hbm, ⟨96, _⟩ => ⟨S4x64x8x96x128x2, .f32⟩
  | .hbm, ⟨97, _⟩ => ⟨S4x64x128x8x2x96, .f32⟩
  | .hbm, ⟨98, _⟩ => ⟨S4x64x8x96x2x128, .f32⟩
  | .hbm, ⟨99, _⟩ => ⟨S4x64x128x8x2x96, .f32⟩
  | .hbm, ⟨100, _⟩ => ⟨S4x64x128x8x2x96, .f32⟩
  | .hbm, ⟨101, _⟩ => ⟨S_, .f32⟩
  | .hbm, ⟨102, _⟩ => ⟨S4x64x128x8x2x96, .f32⟩
  | .hbm, ⟨103, _⟩ => ⟨S4x64x128x8x2x96, .f32⟩
  | .hbm, ⟨104, _⟩ => ⟨S4x64x128x8x2x96, .bf16⟩
  | .hbm, ⟨105, _⟩ => ⟨S4x8192x16x96, .bf16⟩
  | .hbm, ⟨106, _⟩ => ⟨S4x64x8x96x128, .f32⟩
  | .hbm, ⟨107, _⟩ => ⟨S4x64x128x8x96, .f32⟩
  | .hbm, ⟨108, _⟩ => ⟨S4x64x8x96x128, .f32⟩
  | .hbm, ⟨109, _⟩ => ⟨S4x64x128x8x96, .f32⟩
  | .hbm, ⟨110, _⟩ => ⟨S4x64x128x8x96, .f32⟩
  | .hbm, ⟨111, _⟩ => ⟨S_, .f32⟩
  | .hbm, ⟨112, _⟩ => ⟨S4x64x128x8x96, .f32⟩
  | .hbm, ⟨113, _⟩ => ⟨S4x64x128x8x96, .f32⟩
  | .hbm, ⟨114, _⟩ => ⟨S4x64x128x8x96, .bf16⟩
  | .hbm, ⟨115, _⟩ => ⟨S4x8192x8x96, .bf16⟩
  | .hbm, ⟨116, _⟩ => ⟨S4x64x8x192x128, .f32⟩
  | .hbm, ⟨117, _⟩ => ⟨S4x64x128x8x192, .f32⟩
  | .hbm, ⟨118, _⟩ => ⟨S4x64x8x192x128, .f32⟩
  | .hbm, ⟨119, _⟩ => ⟨S4x64x128x8x192, .f32⟩
  | .hbm, ⟨120, _⟩ => ⟨S4x64x128x8x192, .f32⟩
  | .hbm, ⟨121, _⟩ => ⟨S_, .f32⟩
  | .hbm, ⟨122, _⟩ => ⟨S4x64x128x8x192, .f32⟩
  | .hbm, ⟨123, _⟩ => ⟨S4x64x128x8x192, .f32⟩
  | .hbm, ⟨124, _⟩ => ⟨S4x64x128x8x192, .bf16⟩
  | .hbm, ⟨125, _⟩ => ⟨S4x8192x8x192, .bf16⟩
  | .local _ .vmem, ⟨0, _⟩ => ⟨S4x8192x16x96, .fp8e4m3⟩
  | .local _ .vmem, ⟨1, _⟩ => ⟨S4x8192x8x96, .fp8e4m3⟩
  | .local _ .vmem, ⟨2, _⟩ => ⟨S4x8192x8x192, .fp8e4m3⟩
  | .local _ .vmem, ⟨3, _⟩ => ⟨S4x8192x16x192, .fp8e5m2⟩
  | .local _ .vmem, ⟨4, _⟩ => ⟨S4x8192x16x96, .bf16⟩
  | .local _ .vmem, ⟨5, _⟩ => ⟨S4x8192x8x96, .bf16⟩
  | .local _ .vmem, ⟨6, _⟩ => ⟨S4x8192x8x192, .bf16⟩
  | .local _ .vmem, ⟨7, _⟩ => ⟨S4x8192x16x192, .bf16⟩
  | _, _ => ⟨S4x8192x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_call0_cst : Ref sig .tc := ⟨.hbm, 40, rfl⟩
abbrev main_call0_call0_v0 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_call1_v0 : Ref sig .tc := ⟨.hbm, 45, rfl⟩
abbrev main_v31 : Ref sig .tc := ⟨.hbm, 46, rfl⟩
abbrev main_call2_cst : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩
abbrev main_c_0 : Ref sig .tc := ⟨.hbm, 51, rfl⟩
abbrev main_call3_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_1 : Ref sig .tc := ⟨.hbm, 56, rfl⟩
abbrev main_v37 : Ref sig .tc := ⟨.hbm, 57, rfl⟩
abbrev main_call4_v0 : Ref sig .tc := ⟨.hbm, 58, rfl⟩
abbrev main_call4_c : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_c_0 : Ref sig .tc := ⟨.hbm, 64, rfl⟩
abbrev main_call4_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_2 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_3 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_4 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_5 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x8192x16x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x8x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x8x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x16x192 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x16x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x8x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x8x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x16x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BitsRun.lean ====
module

public import proofs.«01_k».proof.Proof.Gen.Kernel.Frame.Runs

/-! The kernel's body, run at one grid point with the floats left abstract: it ends with the operands unchanged, and says
    nothing of the results. The kernel's frame needs no more. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple: from operands at their contents and results and scratch at anything, the body ends with the operands
    as they were and the rest at some contents. -/
theorem kernelRun (c : Dev nD) (i : grid0.Coords) (arg2 : Memref sig .tc .smem S4x64x16 .f32) (harg2 : arg2.IsWhole) (arg3 : Memref sig .tc .smem S4x64x8 .f32) (harg3 : arg3.IsWhole) (arg4 : Memref sig .tc .smem S4x64x8 .f32) (harg4 : arg4.IsWhole) (arg5 : Memref sig .tc .vmem S1x1x2x96x8192 .fp8e4m3) (harg5 : arg5.IsWhole) (arg6 : Memref sig .tc .vmem S1x1x96x8192 .fp8e4m3) (harg6 : arg6.IsWhole) (arg7 : Memref sig .tc .vmem S1x1x192x8192 .fp8e4m3) (harg7 : arg7.IsWhole) (arg8 : Memref sig .tc .vmem S1x1x2x192x8192 .fp8e5m2) (harg8 : arg8.IsWhole) (arg9 : Memref sig .tc .vmem S1x1x2x8192 .f32) (harg9 : arg9.IsWhole) (arg10 : Memref sig .tc .vmem S1x1x2x96x8192 .bf16) (harg10 : arg10.IsWhole) (arg11 : Memref sig .tc .vmem S1x1x96x8192 .bf16) (harg11 : arg11.IsWhole) (arg12 : Memref sig .tc .vmem S1x1x192x8192 .bf16) (harg12 : arg12.IsWhole) (arg13 : Memref sig .tc .vmem S64x96x192 .bf16) (harg13 : arg13.IsWhole) (arg14 : Memref sig .tc .vmem S96x192 .f32) (harg14 : arg14.IsWhole) (arg15 : Memref sig .tc .vmem S192x96 .f32) (harg15 : arg15.IsWhole) (arg16 : Memref sig .tc .vmem S128x256 .bf16) (harg16 : arg16.IsWhole)
    (x0 : Vec F S4x64x16 .f32) (x1 : Vec F S4x64x8 .f32) (x2 : Vec F S4x64x8 .f32) (x3 : Vec F S1x1x2x96x8192 .fp8e4m3) (x4 : Vec F S1x1x96x8192 .fp8e4m3) (x5 : Vec F S1x1x192x8192 .fp8e4m3) (x6 : Vec F S1x1x2x192x8192 .fp8e5m2) (x7 : Vec F S1x1x2x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_linattn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_linattn_bwd_eq_skeleton]; unfold cc0_linattn_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.BitsFrame.lean ====
module

public import proofs.«01_k».proof.Proof.BitsRun
public import Idealize.ShloMosaic.Lib.Claim

/-! The kernel's frame with the floats left abstract: the pipeline's proof data, naming nothing of the three results, the run
    and the frame. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v11, main_v12, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame from a run that names nothing of the results: each argument is a staged input or no line touches it. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 0 rfl).trans ((hA c 0).trans (V_main_arg3 m c)),
      (Pipeline.RDat.FramePostR.arr_in h c 1 rfl).trans ((hA c 1).trans (V_main_arg4 m c)),
      (Pipeline.RDat.FramePostR.arr_in h c 2 rfl).trans ((hA c 2).trans (V_main_arg5 m c)),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) h

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The frame: the kernel terminates, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.Spec.lean ====
module

public import Idealize.ShloMosaic.PureOps.Ideal

/-! What the backward pass of chunked linear attention computes, for one batch entry and one key head, as plain sums of
    extended reals.  The two query heads `g` of the group share the key head; `n` is the chunk (64 of them), `t` and `s` are
    positions inside a chunk (128), `d` is a key feature (96) and `e` a value feature (192). -/

@[expose] public section

noncomputable section

namespace Cert.Hand

open scoped BigOperators

/-- The operands of one batch entry and one key head: queries, keys, values and output cotangents as stored, and the scale
    each is multiplied by (one per chunk for queries, keys and values, one per position for the cotangents). -/
structure Head where
  q : Fin 2 → Fin 64 → Fin 128 → Fin 96 → EReal
  k : Fin 64 → Fin 128 → Fin 96 → EReal
  v : Fin 64 → Fin 128 → Fin 192 → EReal
  dO : Fin 2 → Fin 64 → Fin 128 → Fin 192 → EReal
  qs : Fin 2 → Fin 64 → EReal
  ks : Fin 64 → EReal
  vs : Fin 64 → EReal
  dos : Fin 2 → Fin 64 → Fin 128 → EReal

namespace Head

variable (H : Head)

/-- The scaled query, key, value and cotangent. -/
def qb (g : Fin 2) (n : Fin 64) (t : Fin 128) (d : Fin 96) : EReal := H.q g n t d * H.qs g n
/-- The scaled key. -/
def kb (n : Fin 64) (s : Fin 128) (d : Fin 96) : EReal := H.k n s d * H.ks n
/-- The scaled value. -/
def vb (n : Fin 64) (s : Fin 128) (e : Fin 192) : EReal := H.v n s e * H.vs n
/-- The scaled cotangent. -/
def dob (g : Fin 2) (n : Fin 64) (t : Fin 128) (e : Fin 192) : EReal := H.dO g n t e * H.dos g n t

/-- What chunk `n` adds to the forward state: the outer products of its keys and values. -/
def U (n : Fin 64) (d : Fin 96) (e : Fin 192) : EReal := (∑ s : Fin 128, H.k n s d * H.v n s e) * (H.ks n * H.vs n)
/-- What chunk `n` adds to the state's cotangent: the outer products of its cotangents and queries. -/
def W (n : Fin 64) (e : Fin 192) (d : Fin 96) : EReal := ∑ g : Fin 2, ∑ t : Fin 128, H.dob g n t e * H.qb g n t d

/-- The state chunk `n` starts from: the contributions of the chunks before it. -/
def S (n : ℕ) (d : Fin 96) (e : Fin 192) : EReal := ∑ m : Fin 64, if m.val < n then H.U m d e else 0
/-- The contributions to the state's cotangent of the chunks from `n` on. -/
def T (n : ℕ) (e : Fin 192) (d : Fin 96) : EReal := ∑ m : Fin 64, if n ≤ m.val then H.W m e d else 0

/-- The causal product of cotangents and values inside chunk `n`, scaled: the attention weights' cotangent. -/
def A (n : Fin 64) (g : Fin 2) (t s : Fin 128) : EReal :=
  if s.val ≤ t.val then (∑ e : Fin 192, H.v n s e * H.dO g n t e) * (H.dos g n t * H.vs n) else 0
/-- The causal product of queries and keys inside chunk `n`, scaled: the attention weights. -/
def P (n : Fin 64) (g : Fin 2) (t s : Fin 128) : EReal :=
  if s.val ≤ t.val then (∑ d : Fin 96, H.k n s d * H.q g n t d) * (H.qs g n * H.ks n) else 0

/-- The queries' cotangent; `c` is the softmax scale. -/
def dq (c : EReal) (g : Fin 2) (n : Fin 64) (t : Fin 128) (d : Fin 96) : EReal :=
  c * ((∑ e : Fin 192, H.S n.val d e * H.dob g n t e) + ∑ s : Fin 128, H.kb n s d * H.A n g t s)
/-- The keys' cotangent. -/
def dk (c : EReal) (n : Fin 64) (s : Fin 128) (d : Fin 96) : EReal :=
  c * ((∑ e : Fin 192, H.T (n.val + 1) e d * H.vb n s e) + ∑ g : Fin 2, ∑ t : Fin 128, H.qb g n t d * H.A n g t s)
/-- The values' cotangent. -/
def dv (c : EReal) (n : Fin 64) (s : Fin 128) (e : Fin 192) : EReal :=
  c * ((∑ d : Fin 96, H.T (n.val + 1) e d * H.kb n s d) + ∑ g : Fin 2, ∑ t : Fin 128, H.dob g n t e * H.P n g t s)

/-- The state before the first chunk is zero. -/
theorem S_zero (d : Fin 96) (e : Fin 192) : H.S 0 d e = 0 := by
  simp [S]

/-- The next chunk's state adds this chunk's contribution. -/
theorem S_succ (n : Fin 64) (d : Fin 96) (e : Fin 192) : H.S (n.val + 1) d e = H.S n.val d e + H.U n d e := by
  have h : ∀ m : Fin 64, (if m.val < n.val + 1 then H.U m d e else 0)
      = (if m.val < n.val then H.U m d e else 0) + (if n = m then H.U m d e else 0) := by
    intro m
    rcases Nat.lt_trichotomy m.val n.val with h | h | h
    · have : n ≠ m := by rintro rfl; omega
      simp [h, this, Nat.lt_succ_of_lt h]
    · obtain rfl : m = n := Fin.ext h
      simp
    · have : n ≠ m := by rintro rfl; omega
      have h1 : ¬ m.val < n.val + 1 := by omega
      have h2 : ¬ m.val < n.val := by omega
      simp [this, h1, h2]
  unfold S
  rw [Finset.sum_congr rfl fun m _ => h m, Finset.sum_add_distrib, Finset.sum_ite_eq]
  simp

/-- Nothing follows the last chunk. -/
theorem T_last (e : Fin 192) (d : Fin 96) : H.T 64 e d = 0 := by
  unfold T
  refine Finset.sum_eq_zero fun m _ => ?_
  rw [if_neg (by omega)]

/-- The chunks from `n` on are chunk `n` and those after it. -/
theorem T_eq (n : Fin 64) (e : Fin 192) (d : Fin 96) : H.T n.val e d = H.T (n.val + 1) e d + H.W n e d := by
  have h : ∀ m : Fin 64, (if n.val ≤ m.val then H.W m e d else 0)
      = (if n.val + 1 ≤ m.val then H.W m e d else 0) + (if n = m then H.W m e d else 0) := by
    intro m
    rcases Nat.lt_trichotomy m.val n.val with h | h | h
    · have : n ≠ m := by rintro rfl; omega
      have h1 : ¬ n.val + 1 ≤ m.val := by omega
      have h2 : ¬ n.val ≤ m.val := by omega
      simp only [this, h1, h2, if_false, add_zero]
    · obtain rfl : m = n := Fin.ext h
      simp
    · have : n ≠ m := by rintro rfl; omega
      have h1 : n.val + 1 ≤ m.val := by omega
      have h2 : n.val ≤ m.val := by omega
      simp only [this, h1, h2, if_true, if_false, add_zero]
  unfold T
  rw [Finset.sum_congr rfl fun m _ => h m, Finset.sum_add_distrib, Finset.sum_ite_eq]
  simp

end Head

end Cert.Hand
-- ==== Proof.Pay.lean ====
module

public import proofs.«01_k».proof.Proof.Gen.KernelIdeal.Skeleton
public import Idealize.ShloMosaic.Lib.Pointwise
public import proofs.«01_k».proof.Proof.Spec

@[expose] public section

set_option maxRecDepth 8192

noncomputable section

namespace Cert.KernelIdeal.Hand

open Idealize.ShloMosaic Idealize.ShloMosaic.TcCoe Idealize.ShloMosaic.Tactic
open Cert.KernelIdeal.Gen
open scoped BigOperators

/-- Column `128 g + t` of the two heads' columns laid side by side. -/
def gcol (g : Fin 2) (t : Fin 128) : Fin 256 := ⟨128 * g.val + t.val, by omega⟩

/-- A sum over the 256 columns is the sum over the heads of the sums over the positions. -/
theorem sum_gcol (f : Fin 256 → EReal) : ∑ j : Fin 256, f j = ∑ g : Fin 2, ∑ t : Fin 128, f (gcol g t) := by
  rw [Fin.sum_univ_two, Fin.sum_univ_two_halves 128 128 rfl f]
  congr 1 <;> refine Finset.sum_congr rfl fun t _ => congrArg f (Fin.ext ?_) <;> simp [gcol]

/-- The softmax scale, the constant of the program. -/
abbrev scale : EReal := Scalar.ofBits (F := Ideal) .f32 0x3DD105EC#32

variable (qs : Fin 2 → EReal) (ks vs : EReal)
  (q : Fin 2 → Vec Ideal S1x1x1x96x128 .fp8e4m3) (k : Vec Ideal S1x1x96x128 .fp8e4m3) (v : Vec Ideal S1x1x192x128 .fp8e4m3)
  (dO : Fin 2 → Vec Ideal S1x1x1x192x128 .fp8e5m2) (dos : Fin 2 → Vec Ideal S1x1x1x128 .f32)
  (mask : Vec Ideal S128x256 .bf16) (s : Vec Ideal S1x96x192 .bf16) (ds : Vec Ideal S192x96 .f32) (st : Vec Ideal S96x192 .f32)

/-- Reading the first half of two heads' columns. -/
theorem dite_gcol_zero {α : Type} (t : Fin 128) (f : (h : (gcol 0 t).val < 128) → α) (f' : (h : ¬ (gcol 0 t).val < 128) → α) :
    (if h : (gcol 0 t).val < 128 then f h else f' h) = f (by simp [gcol]) := dif_pos _

/-- Reading the second half of two heads' columns. -/
theorem dite_gcol_one {α : Type} (t : Fin 128) (f : (h : (gcol 1 t).val < 128) → α) (f' : (h : ¬ (gcol 1 t).val < 128) → α) :
    (if h : (gcol 1 t).val < 128 then f h else f' h) = f' (by simp [gcol]) := dif_neg _

theorem gcol_zero_mk (t : Fin 128) (h) : (⟨(gcol 0 t).val, h⟩ : Fin 128) = t := Fin.ext (by simp [gcol])
theorem gcol_one_mk (t : Fin 128) (h) : (⟨(gcol 1 t).val - 128, h⟩ : Fin 128) = t := Fin.ext (by simp [gcol])

theorem pay24_apply (d : Fin 96) (e : Fin 192) : k0_pay24 (F := Ideal) ks vs k v st (ix2 d e)
    = st (ix2 d e) + (∑ s : Fin 128, k (ix4 0 0 d s) * v (ix4 0 0 e s)) * (ks * vs) := by
  unfold k0_pay24
  pointwise

theorem pay23_apply (d : Fin 96) (e : Fin 192) : k0_pay23 (F := Ideal) st (ix3 0 d e) = st (ix2 d e) := by
  unfold k0_pay23
  pointwise

theorem pay13_apply (g : Fin 2) (d : Fin 96) (t : Fin 128) : k0_pay13 (F := Ideal) (qs 0) (qs 1) (q 0) (q 1) (ix2 d (gcol g t))
    = q g (ix5 0 0 0 d t) * qs g := by
  unfold k0_pay13
  revert g
  refine Fin.forall_fin_two.2 ⟨?_, ?_⟩
  · pointwise
    rw [dite_gcol_zero, gcol_zero_mk]
  · pointwise
    rw [dite_gcol_one, gcol_one_mk]

theorem pay9_apply (g : Fin 2) (d : Fin 96) (t : Fin 128) : k0_pay9 (F := Ideal) (q 0) (q 1) (ix2 d (gcol g t))
    = q g (ix5 0 0 0 d t) := by
  unfold k0_pay9
  revert g
  refine Fin.forall_fin_two.2 ⟨?_, ?_⟩
  · pointwise
    rw [dite_gcol_zero, gcol_zero_mk]
  · pointwise
    rw [dite_gcol_one, gcol_one_mk]

theorem pay11_apply (g : Fin 2) (e : Fin 192) (t : Fin 128) : k0_pay11 (F := Ideal) (k0_pay10 (dO 0)) (dO 1) (ix2 e (gcol g t))
    = dO g (ix5 0 0 0 e t) := by
  unfold k0_pay11 k0_pay10
  revert g
  refine Fin.forall_fin_two.2 ⟨?_, ?_⟩
  · pointwise
    rw [dite_gcol_zero, gcol_zero_mk]
  · pointwise
    rw [dite_gcol_one, gcol_one_mk]

theorem pay12_apply (g : Fin 2) (t : Fin 128) : k0_pay12 (F := Ideal) (dos 0) (dos 1) (ix2 0 (gcol g t))
    = dos g (ix4 0 0 0 t) := by
  unfold k0_pay12
  revert g
  refine Fin.forall_fin_two.2 ⟨?_, ?_⟩
  · pointwise
    rw [dite_gcol_zero, gcol_zero_mk]
  · pointwise
    rw [dite_gcol_one, gcol_one_mk]

theorem pay14_apply (g : Fin 2) (e : Fin 192) (t : Fin 128) :
    k0_pay14 (F := Ideal) (k0_pay10 (dO 0)) (dO 1) (dos 0) (dos 1) (ix2 e (gcol g t))
    = dO g (ix5 0 0 0 e t) * dos g (ix4 0 0 0 t) := by
  rw [← pay11_apply dO g e t, ← pay12_apply dos g t]
  unfold k0_pay14
  pointwise

theorem pay7_apply (d : Fin 96) (t : Fin 128) : k0_pay7 (F := Ideal) ks k (ix2 d t) = k (ix4 0 0 d t) * ks := by
  unfold k0_pay7 k0_pay5
  pointwise

theorem pay8_apply (e : Fin 192) (t : Fin 128) : k0_pay8 (F := Ideal) vs v (ix2 e t) = v (ix4 0 0 e t) * vs := by
  unfold k0_pay8 k0_pay6
  pointwise

theorem pay5_apply (d : Fin 96) (t : Fin 128) : k0_pay5 (F := Ideal) k (ix2 d t) = k (ix4 0 0 d t) := by
  unfold k0_pay5
  pointwise

theorem pay6_apply (d : Fin 192) (t : Fin 128) : k0_pay6 (F := Ideal) v (ix2 d t) = v (ix4 0 0 d t) := by
  unfold k0_pay6
  pointwise

theorem pay15_apply (w : FVec Ideal S192x128 .fp8e4m3) (y : FVec Ideal S192x256 .fp8e5m2) (z : FVec Ideal S1x256 .f32)
    (x : Fin 128) (j : Fin 256) :
    k0_pay15 (F := Ideal) vs w y z mask (ix2 x j)
    = ((∑ e : Fin 192, w (ix2 e x) * y (ix2 e j)) * (z (ix2 0 j) * vs)) * mask (ix2 x j) := by
  unfold k0_pay15
  pointwise

theorem pay16_apply (w : FVec Ideal S96x128 .fp8e4m3) (y : FVec Ideal S96x256 .fp8e4m3)
    (x : Fin 128) (g : Fin 2) (t : Fin 128) :
    k0_pay16 (F := Ideal) ks w y (qs 0) (qs 1) mask (ix2 x (gcol g t))
    = ((∑ e : Fin 96, w (ix2 e x) * y (ix2 e (gcol g t))) * (qs g * ks)) * mask (ix2 x (gcol g t)) := by
  unfold k0_pay16
  revert g
  refine Fin.forall_fin_two.2 ⟨?_, ?_⟩
  · pointwise
    rw [dite_gcol_zero]
  · pointwise
    rw [dite_gcol_one]
    refine congrArg (fun z => z * _ * _) (Finset.sum_congr rfl fun e _ => congrArg (fun u => _ * y (ix2 e u)) (Fin.ext ?_))
    simp [gcol]

theorem pay2_apply (a : FVec Ideal S192x128 .bf16) (b : FVec Ideal S96x256 .bf16) (c : FVec Ideal S128x256 .bf16)
    (d : Fin 96) (t : Fin 128) :
    k0_pay2 (F := Ideal) a b c (k0_pay17 ds) (ix4 0 0 d t)
    = scale * ((∑ e : Fin 192, ds (ix2 e d) * a (ix2 e t)) + ∑ j : Fin 256, b (ix2 d j) * c (ix2 t j)) := by
  unfold k0_pay2 k0_pay17
  pointwise

theorem pay3_apply (a : FVec Ideal S96x128 .bf16) (b : FVec Ideal S192x256 .bf16) (c : FVec Ideal S128x256 .bf16)
    (e : Fin 192) (t : Fin 128) :
    k0_pay3 (F := Ideal) a b c (k0_pay17 ds) (ix4 0 0 e t)
    = scale * ((∑ d : Fin 96, ds (ix2 e d) * a (ix2 d t)) + ∑ j : Fin 256, b (ix2 e j) * c (ix2 t j)) := by
  unfold k0_pay3 k0_pay17
  pointwise

theorem pay4_apply (b : FVec Ideal S96x256 .bf16) (c : FVec Ideal S192x256 .bf16)
    (e : Fin 192) (d : Fin 96) :
    k0_pay4 (F := Ideal) b c ds (ix2 e d) = ds (ix2 e d) + ∑ j : Fin 256, c (ix2 e j) * b (ix2 d j) := by
  unfold k0_pay4
  pointwise

theorem pay18_apply (w : FVec Ideal S192x128 .fp8e4m3) (kb : FVec Ideal S96x128 .bf16) (y : FVec Ideal S192x256 .fp8e5m2) (z : FVec Ideal S1x256 .f32)
    (b : FVec Ideal S192x256 .bf16) (d : Fin 96) (j : Fin 256) :
    k0_pay18 (F := Ideal) vs w kb y z b mask s (ix2 d j)
    = scale * ((∑ e : Fin 192, s (ix3 0 d e) * b (ix2 e j)) + ∑ x : Fin 128, kb (ix2 d x) * k0_pay15 (F := Ideal) vs w y z mask (ix2 x j)) := by
  unfold k0_pay18
  pointwise

theorem pay19_apply (w : FVec Ideal S192x128 .fp8e4m3) (kb : FVec Ideal S96x128 .bf16) (y : FVec Ideal S192x256 .fp8e5m2) (z : FVec Ideal S1x256 .f32)
    (b : FVec Ideal S192x256 .bf16) (d : Fin 96) (t : Fin 128) :
    k0_pay19 (F := Ideal) vs w kb y z b mask s (ix5 0 0 0 d t) = k0_pay18 (F := Ideal) vs w kb y z b mask s (ix2 d (gcol 0 t)) := by
  unfold k0_pay19
  generalize k0_pay18 (F := Ideal) vs w kb y z b mask s = f
  pointwise
  exact congrArg (fun u => f (ix2 d u)) (Fin.ext (by simp [gcol]))

theorem pay20_apply (w : FVec Ideal S192x128 .fp8e4m3) (kb : FVec Ideal S96x128 .bf16) (y : FVec Ideal S192x256 .fp8e5m2) (z : FVec Ideal S1x256 .f32)
    (b : FVec Ideal S192x256 .bf16) (d : Fin 96) (t : Fin 128) :
    k0_pay1 (k0_pay20 (F := Ideal) vs w kb y z b mask s) (ix5 0 0 0 d t) = k0_pay18 (F := Ideal) vs w kb y z b mask s (ix2 d (gcol 1 t)) := by
  unfold k0_pay1 k0_pay20
  generalize k0_pay18 (F := Ideal) vs w kb y z b mask s = f
  pointwise
  exact congrArg (fun u => f (ix2 d u)) (Fin.ext (by simp [gcol]; try omega))

theorem pay22_apply (d : Fin 96) (e : Fin 192) : k0_pay22 (F := Ideal) (ix2 d e) = 0 := by
  unfold k0_pay22
  pointwise

theorem pay25_apply (d : Fin 96) (e : Fin 192) : k0_pay25 (F := Ideal) (ix2 e d) = 0 := by
  unfold k0_pay25
  pointwise

/-- The column's position inside its head, by the program's integer operations. -/
theorem col_word : ∀ j : Fin 256,
    Scalar.select
          (IntOp.andi
            (IntOp.xori
              (IntOp.cmpi CmpIPredicate.slt
                (IntOp.remsi ArithUnit.vector (BitVec.ofNat 32 j.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 j.val)
                (Scalar.select (Scalar.cmpi CmpIPredicate.eq 128#32 0#32) 1#32 128#32))
              0#32))
          (IntOp.addi
            (IntOp.remsi ArithUnit.vector (BitVec.ofNat 32 j.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 j.val)
            (Scalar.select (Scalar.cmpi CmpIPredicate.eq 128#32 0#32) 1#32 128#32))
      = BitVec.ofNat 32 (j.val % 128) := by decide +kernel

/-- The comparison of two positions as words is their comparison as numbers. -/
theorem sle_word : ∀ x t : Fin 128,
    IntOp.cmpi CmpIPredicate.sle (BitVec.ofNat 32 x.val) (BitVec.ofNat 32 t.val) = if x.val ≤ t.val then 1#1 else 0#1 := by
  decide +kernel

theorem pay21_apply (x : Fin 128) (g : Fin 2) (t : Fin 128) :
    k0_pay21 (F := Ideal) (ix2 x (gcol g t)) = if x.val ≤ t.val then 1 else 0 := by
  unfold k0_pay21
  pointwise
  rw [col_word, show (gcol g t).val % 128 = t.val by simp only [gcol]; omega, sle_word]
  split <;> simp [Scalar.select]

end Cert.KernelIdeal.Hand
end
-- ==== Proof.Trip.lean ====
module

public import proofs.«01_k».proof.Proof.Pay

/-! What one trip of each of the kernel's loops computes from the blocks it loads: the blocks hold chunk `n` of a `Head`. -/

@[expose] public section

set_option maxRecDepth 8192

noncomputable section

namespace Cert.KernelIdeal.Hand

open Idealize.ShloMosaic Idealize.ShloMosaic.TcCoe Idealize.ShloMosaic.Tactic
open Cert.KernelIdeal.Gen Cert.Hand
open scoped BigOperators

/-- The blocks a reverse trip loads: the scales, and chunk `n` of the queries, keys, values, cotangents and their scales
    for each of the two query heads. -/
structure Blocks where
  qs : Fin 2 → EReal
  ks : EReal
  vs : EReal
  q : Fin 2 → Vec Ideal S1x1x1x96x128 .fp8e4m3
  k : Vec Ideal S1x1x96x128 .fp8e4m3
  v : Vec Ideal S1x1x192x128 .fp8e4m3
  dO : Fin 2 → Vec Ideal S1x1x1x192x128 .fp8e5m2
  dos : Fin 2 → Vec Ideal S1x1x1x128 .f32

/-- The blocks hold chunk `n` of `H`. -/
structure Blocks.Holds (B : Blocks) (H : Head) (n : Fin 64) : Prop where
  qs : ∀ g, B.qs g = H.qs g n
  ks : B.ks = H.ks n
  vs : B.vs = H.vs n
  q : ∀ g d t, B.q g (ix5 0 0 0 d t) = H.q g n t d
  k : ∀ d t, B.k (ix4 0 0 d t) = H.k n t d
  v : ∀ e t, B.v (ix4 0 0 e t) = H.v n t e
  dO : ∀ g e t, B.dO g (ix5 0 0 0 e t) = H.dO g n t e
  dos : ∀ g t, B.dos g (ix4 0 0 0 t) = H.dos g n t

namespace Blocks

variable (B : Blocks)

/-- The scaled queries of both heads, side by side. -/
def qb := k0_pay13 (F := Ideal) (B.qs 0) (B.qs 1) (B.q 0) (B.q 1)
/-- The scaled cotangents of both heads, side by side. -/
def dob := k0_pay14 (F := Ideal) (k0_pay10 (B.dO 0)) (B.dO 1) (B.dos 0) (B.dos 1)
/-- The scaled keys. -/
def kb := k0_pay7 (F := Ideal) B.ks B.k
/-- The scaled values. -/
def vb := k0_pay8 (F := Ideal) B.vs B.v
/-- The unscaled cotangents of both heads, side by side. -/
def do2 := k0_pay11 (F := Ideal) (k0_pay10 (B.dO 0)) (B.dO 1)
/-- The cotangents' scales, side by side. -/
def dos2 := k0_pay12 (F := Ideal) (B.dos 0) (B.dos 1)
/-- The masked product of cotangents and values. -/
def at2 (mask : Vec Ideal S128x256 .bf16) := k0_pay15 (F := Ideal) B.vs (k0_pay6 B.v) B.do2 B.dos2 mask
/-- The masked product of queries and keys. -/
def pt2 (mask : Vec Ideal S128x256 .bf16) :=
  k0_pay16 (F := Ideal) B.ks (k0_pay5 B.k) (k0_pay9 (B.q 0) (B.q 1)) (B.qs 0) (B.qs 1) mask

variable {B} {H : Head} {n : Fin 64} (hB : B.Holds H n)
  {mask : Vec Ideal S128x256 .bf16} (hm : ∀ x g t, mask (ix2 x (gcol g t)) = if x.val ≤ t.val then 1 else 0)

include hB

theorem Holds.qb_apply (g : Fin 2) (d : Fin 96) (t : Fin 128) : B.qb (ix2 d (gcol g t)) = H.qb g n t d := by
  unfold Blocks.qb; rw [pay13_apply, hB.q, hB.qs, Head.qb]

theorem Holds.dob_apply (g : Fin 2) (e : Fin 192) (t : Fin 128) : B.dob (ix2 e (gcol g t)) = H.dob g n t e := by
  unfold Blocks.dob; rw [pay14_apply, hB.dO, hB.dos, Head.dob]

theorem Holds.kb_apply (d : Fin 96) (t : Fin 128) : B.kb (ix2 d t) = H.kb n t d := by
  unfold Blocks.kb; rw [pay7_apply, hB.k, hB.ks, Head.kb]

theorem Holds.vb_apply (e : Fin 192) (t : Fin 128) : B.vb (ix2 e t) = H.vb n t e := by
  unfold Blocks.vb; rw [pay8_apply, hB.v, hB.vs, Head.vb]

include hm

theorem Holds.at_apply (g : Fin 2) (x t : Fin 128) : B.at2 mask (ix2 x (gcol g t)) = H.A n g t x := by
  unfold Blocks.at2 Blocks.do2 Blocks.dos2; rw [pay15_apply, hm, pay12_apply, hB.dos, hB.vs, Head.A]
  simp only [pay6_apply, pay11_apply, hB.v, hB.dO]
  split
  · rw [mul_one]
  · rw [mul_zero]

theorem Holds.pt_apply (g : Fin 2) (x t : Fin 128) : B.pt2 mask (ix2 x (gcol g t)) = H.P n g t x := by
  unfold Blocks.pt2; rw [pay16_apply, hm, hB.qs, hB.ks, Head.P]
  simp only [pay5_apply, pay9_apply, hB.k, hB.q]
  split
  · rw [mul_one]
  · rw [mul_zero]

/-- The queries' cotangent of one head's columns. -/
theorem Holds.dq_apply {s : Vec Ideal S1x96x192 .bf16} (hs : ∀ d e, s (ix3 0 d e) = H.S n.val d e) (g : Fin 2)
    (d : Fin 96) (t : Fin 128) :
    k0_pay18 (F := Ideal) B.vs (k0_pay6 B.v) B.kb B.do2 B.dos2 B.dob mask s (ix2 d (gcol g t)) = H.dq scale g n t d := by
  rw [pay18_apply, Head.dq, show k0_pay15 (F := Ideal) B.vs (k0_pay6 B.v) B.do2 B.dos2 mask = B.at2 mask from rfl]
  simp only [hs, hB.dob_apply, hB.kb_apply, hB.at_apply hm]

/-- The keys' cotangent. -/
theorem Holds.dk_apply {ds : Vec Ideal S192x96 .f32} (hs : ∀ e d, ds (ix2 e d) = H.T (n.val + 1) e d)
    (d : Fin 96) (t : Fin 128) :
    k0_pay2 (F := Ideal) B.vb B.qb (B.at2 mask) (k0_pay17 ds) (ix4 0 0 d t) = H.dk scale n t d := by
  rw [pay2_apply, Head.dk, sum_gcol]
  simp only [hs, hB.vb_apply, hB.qb_apply, hB.at_apply hm]

/-- The values' cotangent. -/
theorem Holds.dv_apply {ds : Vec Ideal S192x96 .f32} (hs : ∀ e d, ds (ix2 e d) = H.T (n.val + 1) e d)
    (e : Fin 192) (t : Fin 128) :
    k0_pay3 (F := Ideal) B.kb B.dob (B.pt2 mask) (k0_pay17 ds) (ix4 0 0 e t) = H.dv scale n t e := by
  rw [pay3_apply, Head.dv, sum_gcol]
  simp only [hs, hB.kb_apply, hB.dob_apply, hB.pt_apply hm]

omit hm in
/-- The state's cotangent, the trip's own contribution added. -/
theorem Holds.dstate_apply {ds : Vec Ideal S192x96 .f32} (hs : ∀ e d, ds (ix2 e d) = H.T (n.val + 1) e d)
    (e : Fin 192) (d : Fin 96) : k0_pay4 (F := Ideal) B.qb B.dob ds (ix2 e d) = H.T n.val e d := by
  rw [pay4_apply, sum_gcol, H.T_eq n, hs, Head.W]
  simp only [hB.dob_apply, hB.qb_apply]

end Blocks

/-- A forward trip adds chunk `n`'s keys and values to the state. -/
theorem state_apply {H : Head} {n : Fin 64} {ks vs : EReal} {k : Vec Ideal S1x1x96x128 .fp8e4m3}
    {v : Vec Ideal S1x1x192x128 .fp8e4m3} {st : Vec Ideal S96x192 .f32} (hks : ks = H.ks n) (hvs : vs = H.vs n)
    (hk : ∀ d t, k (ix4 0 0 d t) = H.k n t d) (hv : ∀ e t, v (ix4 0 0 e t) = H.v n t e)
    (hst : ∀ d e, st (ix2 d e) = H.S n.val d e) (d : Fin 96) (e : Fin 192) :
    k0_pay24 (F := Ideal) ks vs k v st (ix2 d e) = H.S (n.val + 1) d e := by
  rw [pay24_apply, hst, hks, hvs, H.S_succ n, Head.U]
  simp only [hk, hv]

end Cert.KernelIdeal.Hand
end
-- ==== Proof.Result.lean ====
module

public import proofs.«01_k».proof.Proof.Spec
public import Idealize.ShloMosaic.Lib.Pipeline.ValueKit

/-! The whole problem: one `Head` for each batch entry and key head, read off the eight argument arrays, and the three result
    arrays. -/

@[expose] public section

noncomputable section

namespace Cert.Hand

open Idealize.ShloMosaic
open scoped BigOperators

/-- Position `t` of chunk `n` in the whole sequence. -/
def pos (n : Fin 64) (t : Fin 128) : Fin 8192 := ⟨128 * n.val + t.val, by omega⟩
/-- The chunk of a position and its place inside the chunk. -/
def chunkOf (p : Fin 8192) : Fin 64 := ⟨p.val / 128, by omega⟩
def placeOf (p : Fin 8192) : Fin 128 := ⟨p.val % 128, by omega⟩

theorem chunkOf_pos (n : Fin 64) (t : Fin 128) : chunkOf (pos n t) = n := Fin.ext (by simp only [chunkOf, pos]; omega)
theorem placeOf_pos (n : Fin 64) (t : Fin 128) : placeOf (pos n t) = t := Fin.ext (by simp only [placeOf, pos]; omega)
theorem pos_eta (p : Fin 8192) : pos (chunkOf p) (placeOf p) = p := Fin.ext (by simp only [chunkOf, placeOf, pos]; omega)

/-- Query head `g` of key head `h`; the key head of a query head and its place there. -/
def qhead (h : Fin 8) (g : Fin 2) : Fin 16 := ⟨2 * h.val + g.val, by omega⟩
def khead (x : Fin 16) : Fin 8 := ⟨x.val / 2, by omega⟩
def group (x : Fin 16) : Fin 2 := ⟨x.val % 2, by omega⟩

theorem khead_qhead (h : Fin 8) (g : Fin 2) : khead (qhead h g) = h := Fin.ext (by simp only [khead, qhead]; omega)
theorem group_qhead (h : Fin 8) (g : Fin 2) : group (qhead h g) = g := Fin.ext (by simp only [group, qhead]; omega)
theorem qhead_eta (x : Fin 16) : qhead (khead x) (group x) = x := Fin.ext (by simp only [khead, group, qhead]; omega)

/-- The eight argument arrays. -/
structure Args where
  q : (⟨4, ![4, 8192, 16, 96]⟩ : Shape).Idx → EReal
  k : (⟨4, ![4, 8192, 8, 96]⟩ : Shape).Idx → EReal
  v : (⟨4, ![4, 8192, 8, 192]⟩ : Shape).Idx → EReal
  qs : (⟨3, ![4, 64, 16]⟩ : Shape).Idx → EReal
  ks : (⟨3, ![4, 64, 8]⟩ : Shape).Idx → EReal
  vs : (⟨3, ![4, 64, 8]⟩ : Shape).Idx → EReal
  dO : (⟨4, ![4, 8192, 16, 192]⟩ : Shape).Idx → EReal
  dos : (⟨3, ![4, 8192, 16]⟩ : Shape).Idx → EReal

namespace Args

variable (A : Args)

/-- Batch entry `b`'s key head `h`. -/
def head (b : Fin 4) (h : Fin 8) : Head where
  q g n t d := A.q (ix4 b (pos n t) (qhead h g) d)
  k n t d := A.k (ix4 b (pos n t) h d)
  v n t e := A.v (ix4 b (pos n t) h e)
  dO g n t e := A.dO (ix4 b (pos n t) (qhead h g) e)
  qs g n := A.qs (ix3 b n (qhead h g))
  ks n := A.ks (ix3 b n h)
  vs n := A.vs (ix3 b n h)
  dos g n t := A.dos (ix3 b (pos n t) (qhead h g))

/-- The three results, at an index. -/
def dq (c : EReal) (b : Fin 4) (p : Fin 8192) (x : Fin 16) (d : Fin 96) : EReal :=
  (A.head b (khead x)).dq c (group x) (chunkOf p) (placeOf p) d
def dk (c : EReal) (b : Fin 4) (p : Fin 8192) (h : Fin 8) (d : Fin 96) : EReal :=
  (A.head b h).dk c (chunkOf p) (placeOf p) d
def dv (c : EReal) (b : Fin 4) (p : Fin 8192) (h : Fin 8) (e : Fin 192) : EReal :=
  (A.head b h).dv c (chunkOf p) (placeOf p) e

end Args

end Cert.Hand
end
-- ==== Proof.Loads.lean ====
module

public import proofs.«01_k».proof.Proof.Trip
public import proofs.«01_k».proof.Proof.Result
public import proofs.«01_k».proof.Proof.Gen.KernelIdeal
public import Idealize.ShloMosaic.Lib.Pipeline.ValueKit

/-! The blocks each trip loads, of the operands one grid point is handed: they hold one chunk of a `Head`. -/

@[expose] public section

set_option maxRecDepth 8192

noncomputable section

namespace Cert.KernelIdeal.Hand

open Idealize.ShloMosaic Idealize.ShloMosaic.TcCoe Idealize.ShloMosaic.Tactic
open Cert.KernelIdeal.Gen Cert.Hand
open scoped BigOperators

/-- The chunk a forward trip visits. -/
def fwd (k : Fin k0_t1_loop.trips) : Fin 64 := ⟨k.val, by have := k.isLt; have := k0_t1_abs.2.1; omega⟩
/-- The chunk a reverse trip visits: the last one first. -/
def rev (k : Fin k0_t2_loop.trips) : Fin 64 := ⟨63 - k.val, by omega⟩

/-- A load through a rectangle whose offsets are known, read at an index. -/
theorem ld_at {S : Shape} {e : EltTy} (X : S.Idx → Elt Ideal e) {off off' : Fin S.rank → Nat} (size : Fin S.rank → Nat) (inb)
    (x : (Rect.unit off size inb).shape.Idx) (i : S.Idx) (ho : off = off') (hi : ∀ a, (i a : Nat) = off' a + x a) :
    View.ld X (Rect.unit off size inb) x = X i :=
  View.ld_unit_apply_of X off size inb x i fun a => by rw [hi a, ← ho]

variable (i : grid0.Coords)
  (x0 : Vec Ideal S4x64x16 .f32) (x1 x2 : Vec Ideal S4x64x8 .f32) (x3 : Vec Ideal S1x1x2x96x8192 .fp8e4m3)
  (x4 : Vec Ideal S1x1x96x8192 .fp8e4m3) (x5 : Vec Ideal S1x1x192x8192 .fp8e4m3)
  (x6 : Vec Ideal S1x1x2x192x8192 .fp8e5m2) (x7 : Vec Ideal S1x1x2x8192 .f32)

/-- What grid point `i` is handed, as a `Head`: the tables of scales read at its batch entry and heads, the arrays at its block. -/
def headOf : Head where
  q g n t d := x3 (ix5 0 0 g d (pos n t))
  k n t d := x4 (ix4 0 0 d (pos n t))
  v n t e := x5 (ix4 0 0 e (pos n t))
  dO g n t e := x6 (ix5 0 0 g e (pos n t))
  qs g n := x0 (ix3 (i 0) n (qhead (i 1) g))
  ks n := x1 (ix3 (i 0) n (i 1))
  vs n := x2 (ix3 (i 0) n (i 1))
  dos g n t := x7 (ix4 0 0 g (pos n t))

/-- The blocks reverse trip `k` loads. -/
def revBlocks (k : Fin k0_t2_loop.trips) : Blocks where
  qs := ![View.ld (Val := Elt Ideal) (e' := .f32) x0 (Rect.unit (s := S4x64x16) (k0_off14 i k 0#32) S1x1x1.size (k0_off14_inb i k 0)) (Shape.Idx.first (s := S1x1x1) (by decide)),
    View.ld (Val := Elt Ideal) (e' := .f32) x0 (Rect.unit (s := S4x64x16) (k0_off14 i k 1#32) S1x1x1.size (k0_off14_inb i k 1)) (Shape.Idx.first (s := S1x1x1) (by decide))]
  ks := View.ld (Val := Elt Ideal) (e' := .f32) x1 (Rect.unit (s := S4x64x8) (k0_off5 i k) S1x1x1.size (k0_off5_inb i k)) (Shape.Idx.first (s := S1x1x1) (by decide))
  vs := View.ld (Val := Elt Ideal) (e' := .f32) x2 (Rect.unit (s := S4x64x8) (k0_off5 i k) S1x1x1.size (k0_off5_inb i k)) (Shape.Idx.first (s := S1x1x1) (by decide))
  q := ![View.ld (Val := Elt Ideal) (e' := .fp8e4m3) x3 (Rect.unit (s := S1x1x2x96x8192) (k0_off8 k) S1x1x1x96x128.size (k0_off8_inb k)),
    View.ld (Val := Elt Ideal) (e' := .fp8e4m3) x3 (Rect.unit (s := S1x1x2x96x8192) (k0_off9 k) S1x1x1x96x128.size (k0_off9_inb k))]
  k := View.ld (Val := Elt Ideal) (e' := .fp8e4m3) x4 (Rect.unit (s := S1x1x96x8192) (k0_off6 k) S1x1x96x128.size (k0_off6_inb k))
  v := View.ld (Val := Elt Ideal) (e' := .fp8e4m3) x5 (Rect.unit (s := S1x1x192x8192) (k0_off7 k) S1x1x192x128.size (k0_off7_inb k))
  dO := ![View.ld (Val := Elt Ideal) (e' := .fp8e5m2) x6 (Rect.unit (s := S1x1x2x192x8192) (k0_off10 k) S1x1x1x192x128.size (k0_off10_inb k)),
    View.ld (Val := Elt Ideal) (e' := .fp8e5m2) x6 (Rect.unit (s := S1x1x2x192x8192) (k0_off11 k) S1x1x1x192x128.size (k0_off11_inb k))]
  dos := ![View.ld (Val := Elt Ideal) (e' := .f32) x7 (Rect.unit (s := S1x1x2x8192) (k0_off12 k) S1x1x1x128.size (k0_off12_inb k)),
    View.ld (Val := Elt Ideal) (e' := .f32) x7 (Rect.unit (s := S1x1x2x8192) (k0_off13 k) S1x1x1x128.size (k0_off13_inb k))]

/-- They hold the chunk the trip visits. -/
theorem revBlocks_holds (k : Fin k0_t2_loop.trips) :
    (revBlocks i x0 x1 x2 x3 x4 x5 x6 x7 k).Holds (headOf i x0 x1 x2 x3 x4 x5 x6 x7) (rev k) := by
  have hk : k.val < 64 := Nat.lt_of_lt_of_le k.isLt k0_t2_abs.2.1
  constructor
  · refine Fin.forall_fin_two.2 ⟨?_, ?_⟩
    · refine ld_at _ _ _ _ (ix3 (i 0) (rev k) (qhead (i 1) 0)) (k0_off14_eq i k 0) fun a => ?_
      match a with
      | ⟨0, _⟩ => rfl
      | ⟨1, _⟩ => rfl
      | ⟨2, _⟩ => rfl
    · refine ld_at _ _ _ _ (ix3 (i 0) (rev k) (qhead (i 1) 1)) (k0_off14_eq i k 1) fun a => ?_
      match a with
      | ⟨0, _⟩ => rfl
      | ⟨1, _⟩ => rfl
      | ⟨2, _⟩ => rfl
  · refine ld_at _ _ _ _ (ix3 (i 0) (rev k) (i 1)) (k0_off5_eq i k) fun a => ?_
    match a with
    | ⟨0, _⟩ => rfl
    | ⟨1, _⟩ => rfl
    | ⟨2, _⟩ => rfl
  · refine ld_at _ _ _ _ (ix3 (i 0) (rev k) (i 1)) (k0_off5_eq i k) fun a => ?_
    match a with
    | ⟨0, _⟩ => rfl
    | ⟨1, _⟩ => rfl
    | ⟨2, _⟩ => rfl
  · refine Fin.forall_fin_two.2 ⟨fun d t => ?_, fun d t => ?_⟩
    · refine ld_at _ _ _ _ (ix5 0 0 0 d (pos (rev k) t)) (k0_off8_eq k) fun a => ?_
      match a with
      | ⟨0, _⟩ => rfl
      | ⟨1, _⟩ => rfl
      | ⟨2, _⟩ => rfl
      | ⟨3, _⟩ => exact (Nat.zero_add _).symm
      | ⟨4, _⟩ => show 128 * (63 - k.val) + t.val = 8064 - 128 * k.val + t.val; omega
    · refine ld_at _ _ _ _ (ix5 0 0 1 d (pos (rev k) t)) (k0_off9_eq k) fun a => ?_
      match a with
      | ⟨0, _⟩ => rfl
      | ⟨1, _⟩ => rfl
      | ⟨2, _⟩ => rfl
      | ⟨3, _⟩ => exact (Nat.zero_add _).symm
      | ⟨4, _⟩ => show 128 * (63 - k.val) + t.val = 8064 - 128 * k.val + t.val; omega
  · intro d t
    refine ld_at _ _ _ _ (ix4 0 0 d (pos (rev k) t)) (k0_off6_eq k) fun a => ?_
    match a with
    | ⟨0, _⟩ => rfl
    | ⟨1, _⟩ => rfl
    | ⟨2, _⟩ => exact (Nat.zero_add _).symm
    | ⟨3, _⟩ => show 128 * (63 - k.val) + t.val = 8064 - 128 * k.val + t.val; omega
  · intro d t
    refine ld_at _ _ _ _ (ix4 0 0 d (pos (rev k) t)) (k0_off7_eq k) fun a => ?_
    match a with
    | ⟨0, _⟩ => rfl
    | ⟨1, _⟩ => rfl
    | ⟨2, _⟩ => exact (Nat.zero_add _).symm
    | ⟨3, _⟩ => show 128 * (63 - k.val) + t.val = 8064 - 128 * k.val + t.val; omega
  · refine Fin.forall_fin_two.2 ⟨fun d t => ?_, fun d t => ?_⟩
    · refine ld_at _ _ _ _ (ix5 0 0 0 d (pos (rev k) t)) (k0_off10_eq k) fun a => ?_
      match a with
      | ⟨0, _⟩ => rfl
      | ⟨1, _⟩ => rfl
      | ⟨2, _⟩ => rfl
      | ⟨3, _⟩ => exact (Nat.zero_add _).symm
      | ⟨4, _⟩ => show 128 * (63 - k.val) + t.val = 8064 - 128 * k.val + t.val; omega
    · refine ld_at _ _ _ _ (ix5 0 0 1 d (pos (rev k) t)) (k0_off11_eq k) fun a => ?_
      match a with
      | ⟨0, _⟩ => rfl
      | ⟨1, _⟩ => rfl
      | ⟨2, _⟩ => rfl
      | ⟨3, _⟩ => exact (Nat.zero_add _).symm
      | ⟨4, _⟩ => show 128 * (63 - k.val) + t.val = 8064 - 128 * k.val + t.val; omega
  · refine Fin.forall_fin_two.2 ⟨fun t => ?_, fun t => ?_⟩
    · refine ld_at _ _ _ _ (ix4 0 0 0 (pos (rev k) t)) (k0_off12_eq k) fun a => ?_
      match a with
      | ⟨0, _⟩ => rfl
      | ⟨1, _⟩ => rfl
      | ⟨2, _⟩ => rfl
      | ⟨3, _⟩ => show 128 * (63 - k.val) + t.val = 8064 - 128 * k.val + t.val; omega
    · refine ld_at _ _ _ _ (ix4 0 0 1 (pos (rev k) t)) (k0_off13_eq k) fun a => ?_
      match a with
      | ⟨0, _⟩ => rfl
      | ⟨1, _⟩ => rfl
      | ⟨2, _⟩ => rfl
      | ⟨3, _⟩ => show 128 * (63 - k.val) + t.val = 8064 - 128 * k.val + t.val; omega

end Cert.KernelIdeal.Hand
end
-- ==== Proof.Fwd.lean ====
module

public import proofs.«01_k».proof.Proof.Loads

/-! The forward loop: before trip `k` the state is the sum of the earlier chunks' contributions, and the table of states
    holds, for every chunk already visited, the state that chunk starts from. -/

@[expose] public section

set_option maxRecDepth 8192

noncomputable section

namespace Cert.KernelIdeal.Hand

open Idealize.ShloMosaic Idealize.ShloMosaic.TcCoe Idealize.ShloMosaic.Tactic
open Cert.KernelIdeal.Gen Cert.Hand
open scoped BigOperators

/-- Both loops run 64 trips. -/
theorem trips1 : k0_t1_loop.trips = 64 := by decide +kernel
theorem trips2 : k0_t2_loop.trips = 64 := by decide +kernel

/-- The whole of the state's buffer, of its cotangent's and of the mask's. -/
abbrev whole14 : Rect S96x192 := Rect.unit (s := S96x192) ![0, 0] S96x192.size inb_S96x192_S96x192_0_0
abbrev whole15 : Rect S192x96 := Rect.unit (s := S192x96) ![0, 0] S192x96.size inb_S192x96_S192x96_0_0
abbrev whole16 : Rect S128x256 := Rect.unit (s := S128x256) ![0, 0] S128x256.size inb_S128x256_S128x256_0_0
/-- The row of the table of states a forward trip writes. -/
abbrev row1 (k : Fin k0_t1_loop.trips) : Rect S64x96x192 := Rect.unit (s := S64x96x192) (k0_off1 k) S1x96x192.size (k0_off1_inb k)

theorem emb14 (d : Fin 96) (e : Fin 192) : whole14.emb (ix2 d e) = ix2 d e :=
  Rect.emb_eq_of_coords _ _ _ fun a => match a with
    | ⟨0, _⟩ => by show d.val = 0 + 1 * d.val; omega
    | ⟨1, _⟩ => by show e.val = 0 + 1 * e.val; omega
theorem emb15 (e : Fin 192) (d : Fin 96) : whole15.emb (ix2 e d) = ix2 e d :=
  Rect.emb_eq_of_coords _ _ _ fun a => match a with
    | ⟨0, _⟩ => by show e.val = 0 + 1 * e.val; omega
    | ⟨1, _⟩ => by show d.val = 0 + 1 * d.val; omega
theorem emb16 (x : Fin 128) (j : Fin 256) : whole16.emb (ix2 x j) = ix2 x j :=
  Rect.emb_eq_of_coords _ _ _ fun a => match a with
    | ⟨0, _⟩ => by show x.val = 0 + 1 * x.val; omega
    | ⟨1, _⟩ => by show j.val = 0 + 1 * j.val; omega

theorem row1_emb (k : Fin k0_t1_loop.trips) (d : Fin 96) (e : Fin 192) : (row1 k).emb (ix3 0 d e) = ix3 (fwd k) d e :=
  Rect.emb_eq_of_coords _ _ _ fun a => by
    rw [show (row1 k).off = ![k.val, 0, 0] from k0_off1_eq k]
    match a with
    | ⟨0, _⟩ => show k.val = k.val + 1 * 0; omega
    | ⟨1, _⟩ => show d.val = 0 + 1 * d.val; omega
    | ⟨2, _⟩ => show e.val = 0 + 1 * e.val; omega

/-- The table of states. -/
def stateTable (H : Head) : S64x96x192.Idx → Elt Ideal .bf16 := fun j => H.S (j 0).val (j 1) (j 2)

variable (i : grid0.Coords)
  (x0 : Vec Ideal S4x64x16 .f32) (x1 x2 : Vec Ideal S4x64x8 .f32) (x3 : Vec Ideal S1x1x2x96x8192 .fp8e4m3)
  (x4 : Vec Ideal S1x1x96x8192 .fp8e4m3) (x5 : Vec Ideal S1x1x192x8192 .fp8e4m3)
  (x6 : Vec Ideal S1x1x2x192x8192 .fp8e5m2) (x7 : Vec Ideal S1x1x2x8192 .f32)

/-- The scalar a trip loads from a table of scales. -/
abbrev fwdScale (x : Vec Ideal S4x64x8 .f32) (k : Fin k0_t1_loop.trips) : EReal :=
  View.ld (Val := Elt Ideal) (e' := .f32) x (Rect.unit (s := S4x64x8) (k0_off2 i k) S1x1x1.size (k0_off2_inb i k)) (Shape.Idx.first (s := S1x1x1) (by decide))
/-- The keys and the values a forward trip loads. -/
abbrev fwdK (k : Fin k0_t1_loop.trips) : Vec Ideal S1x1x96x128 .fp8e4m3 :=
  View.ld (Val := Elt Ideal) (e' := .fp8e4m3) x4 (Rect.unit (s := S1x1x96x8192) (k0_off3 k) S1x1x96x128.size (k0_off3_inb k))
abbrev fwdV (k : Fin k0_t1_loop.trips) : Vec Ideal S1x1x192x128 .fp8e4m3 :=
  View.ld (Val := Elt Ideal) (e' := .fp8e4m3) x5 (Rect.unit (s := S1x1x192x8192) (k0_off4 k) S1x1x192x128.size (k0_off4_inb k))

theorem fwdScale_eq (x : Vec Ideal S4x64x8 .f32) (k : Fin k0_t1_loop.trips) : fwdScale i x k = x (ix3 (i 0) (fwd k) (i 1)) :=
  ld_at _ _ _ _ (ix3 (i 0) (fwd k) (i 1)) (k0_off2_eq i k) fun a => match a with
    | ⟨0, _⟩ => rfl
    | ⟨1, _⟩ => rfl
    | ⟨2, _⟩ => rfl

theorem fwdK_eq (k : Fin k0_t1_loop.trips) (d : Fin 96) (t : Fin 128) : fwdK x4 k (ix4 0 0 d t) = x4 (ix4 0 0 d (pos (fwd k) t)) :=
  ld_at _ _ _ _ (ix4 0 0 d (pos (fwd k) t)) (k0_off3_eq k) fun a => match a with
    | ⟨0, _⟩ => rfl
    | ⟨1, _⟩ => rfl
    | ⟨2, _⟩ => (Nat.zero_add _).symm
    | ⟨3, _⟩ => rfl

theorem fwdV_eq (k : Fin k0_t1_loop.trips) (e : Fin 192) (t : Fin 128) : fwdV x5 k (ix4 0 0 e t) = x5 (ix4 0 0 e (pos (fwd k) t)) :=
  ld_at _ _ _ _ (ix4 0 0 e (pos (fwd k) t)) (k0_off4_eq k) fun a => match a with
    | ⟨0, _⟩ => rfl
    | ⟨1, _⟩ => rfl
    | ⟨2, _⟩ => (Nat.zero_add _).symm
    | ⟨3, _⟩ => rfl

variable (v14 : View sig .tc .vmem S96x192 .f32) (G14 : BufTy.Contents (Elt Ideal) v14.ty)
  (P : ℕ → List (View.Piece (Elt Ideal) S64x96x192 .bf16) × List (View.Piece (Elt Ideal) S96x192 .f32))

/-- How the lists of pieces written grow, a trip at a time. -/
structure FwdRec : Prop where
  zero : P 0 = ([], [])
  succ : ∀ k : Fin k0_t1_loop.trips, P (k.val + 1)
    = (⟨row1 k, k0_pay23 (F := Ideal) (View.ld (v14.read (Elt Ideal) (v14.writes (Elt Ideal) G14 (P k.val).2)) whole14)⟩ :: (P k.val).1,
       ⟨whole14, k0_pay24 (F := Ideal) (fwdScale i x1 k) (fwdScale i x2 k) (fwdK x4 k) (fwdV x5 k)
          (View.ld (v14.read (Elt Ideal) (v14.writes (Elt Ideal) G14 (P k.val).2)) whole14)⟩ :: (P k.val).2)

/-- What holds before trip `k`. -/
structure FwdInv (H : Head) (k : ℕ) : Prop where
  state : ∀ d e, v14.read (Elt Ideal) (v14.writes (Elt Ideal) G14 (P k).2) (ix2 d e) = H.S k d e
  pieces : ∀ p ∈ (P k).1, ∀ x : p.1.shape.Idx, p.2 x = stateTable H (p.1.emb x)
  cover : ∀ n : Fin 64, n.val < k → ∀ d e, ∃ p ∈ (P k).1, (ix3 n d e : S64x96x192.Idx) ∈ p.1.set

variable {i x1 x2 x4 x5 v14 G14 P}

theorem FwdRec.inv (hP : FwdRec i x1 x2 x4 x5 v14 G14 P) (hG : ∀ d e, v14.read (Elt Ideal) G14 (ix2 d e) = 0) :
    ∀ k, k ≤ 64 → FwdInv v14 G14 P (headOf i x0 x1 x2 x3 x4 x5 x6 x7) k
  | 0, _ => by
    constructor
    · intro d e
      rw [hP.zero, Head.S_zero]
      exact hG d e
    · rw [hP.zero]
      intro p hp
      exact absurd hp List.not_mem_nil
    · intro n hn
      exact absurd hn (Nat.not_lt_zero _)
  | k + 1, hk => by
    have ih := FwdRec.inv hP hG k (by omega)
    have hs := hP.succ ⟨k, by rw [trips1]; omega⟩
    have hld : ∀ d e, View.ld (v14.read (Elt Ideal) (v14.writes (Elt Ideal) G14 (P k).2)) whole14 (ix2 d e)
        = (headOf i x0 x1 x2 x3 x4 x5 x6 x7).S k d e := fun d e =>
      (congrArg (v14.read (Elt Ideal) (v14.writes (Elt Ideal) G14 (P k).2)) (emb14 d e)).trans (ih.state d e)
    constructor
    · intro d e
      rw [hs]
      refine (View.read_writes_cons_hit v14 G14 whole14 _ _ (ix2 d e) (ix2 d e) (emb14 d e)).trans ?_
      exact state_apply (H := headOf i x0 x1 x2 x3 x4 x5 x6 x7) (n := fwd ⟨k, by rw [trips1]; omega⟩)
        (fwdScale_eq i x1 _) (fwdScale_eq i x2 _) (fwdK_eq x4 _) (fwdV_eq x5 _) hld d e
    · rw [hs]
      intro p hp
      rcases List.mem_cons.1 hp with rfl | hp
      · intro x
        obtain ⟨d, e, rfl⟩ : ∃ (d : Fin 96) (e : Fin 192), x = (ix3 0 d e : S1x96x192.Idx) :=
          ⟨x 1, x 2, funext fun a => match a with
            | ⟨0, _⟩ => Fin.ext (by show (x 0).val = 0; have : (x 0).val < 1 := (x 0).isLt; omega)
            | ⟨1, _⟩ => rfl
            | ⟨2, _⟩ => rfl⟩
        refine Eq.trans (pay23_apply _ d e) ?_
        rw [hld, row1_emb]
        rfl
      · exact ih.pieces p hp
    · intro n hn d e
      rw [hs]
      rcases Nat.lt_or_ge n.val k with h | h
      · obtain ⟨p, hp, hm⟩ := ih.cover n h d e
        exact ⟨p, List.mem_cons_of_mem _ hp, hm⟩
      · refine ⟨_, List.mem_cons_self, ?_⟩
        have hn' : n = fwd ⟨k, by rw [trips1]; omega⟩ := Fin.ext (by show n.val = k; omega)
        rw [hn', ← row1_emb]
        exact (row1 _).idx_mem _

/-- After the loop, the table of states read at any place. -/
theorem FwdRec.table (hP : FwdRec i x1 x2 x4 x5 v14 G14 P) (hG : ∀ d e, v14.read (Elt Ideal) G14 (ix2 d e) = 0)
    (v13 : View sig .tc .vmem S64x96x192 .bf16) (G13 : BufTy.Contents (Elt Ideal) v13.ty) (n : Fin 64) (d : Fin 96) (e : Fin 192) :
    v13.read (Elt Ideal) (v13.writes (Elt Ideal) G13 (P 64).1) (ix3 n d e) = (headOf i x0 x1 x2 x3 x4 x5 x6 x7).S n.val d e :=
  have h := hP.inv x0 x3 x6 x7 hG 64 (Nat.le_refl _)
  View.read_writes_apply_of_pieces v13 G13 (stateTable (headOf i x0 x1 x2 x3 x4 x5 x6 x7)) _ h.pieces (ix3 n d e)
    (h.cover n n.isLt d e)

end Cert.KernelIdeal.Hand
end
-- ==== Proof.Rev.lean ====
module

public import proofs.«01_k».proof.Proof.Fwd

/-! The reverse loop: before trip `k` the state's cotangent is the sum of the contributions of the chunks already visited (the
    last `k`), and the three results hold their values at those chunks. -/

@[expose] public section

set_option maxRecDepth 8192

noncomputable section

namespace Cert.KernelIdeal.Hand

open Idealize.ShloMosaic Idealize.ShloMosaic.TcCoe Idealize.ShloMosaic.Tactic
open Cert.KernelIdeal.Gen Cert.Hand
open scoped BigOperators

/-- What a grid point leaves in its block of the queries', the keys' and the values' cotangents. -/
def outDq (H : Head) : Vec Ideal S1x1x2x96x8192 .bf16 := fun j => H.dq scale (j 2) (chunkOf (j 4)) (placeOf (j 4)) (j 3)
def outDk (H : Head) : Vec Ideal S1x1x96x8192 .bf16 := fun j => H.dk scale (chunkOf (j 3)) (placeOf (j 3)) (j 2)
def outDv (H : Head) : Vec Ideal S1x1x192x8192 .bf16 := fun j => H.dv scale (chunkOf (j 3)) (placeOf (j 3)) (j 2)

/-- The places a reverse trip stores to, and the row of the table of states it loads. -/
abbrev box8 (k : Fin k0_t2_loop.trips) : Rect S1x1x2x96x8192 := Rect.unit (s := S1x1x2x96x8192) (k0_off8 k) S1x1x1x96x128.size (k0_off8_inb k)
abbrev box9 (k : Fin k0_t2_loop.trips) : Rect S1x1x2x96x8192 := Rect.unit (s := S1x1x2x96x8192) (k0_off9 k) S1x1x1x96x128.size (k0_off9_inb k)
abbrev box6 (k : Fin k0_t2_loop.trips) : Rect S1x1x96x8192 := Rect.unit (s := S1x1x96x8192) (k0_off6 k) S1x1x96x128.size (k0_off6_inb k)
abbrev box7 (k : Fin k0_t2_loop.trips) : Rect S1x1x192x8192 := Rect.unit (s := S1x1x192x8192) (k0_off7 k) S1x1x192x128.size (k0_off7_inb k)
abbrev row15 (k : Fin k0_t2_loop.trips) : Rect S64x96x192 := Rect.unit (s := S64x96x192) (k0_off15 k) S1x96x192.size (k0_off15_inb k)

theorem box8_emb (k : Fin k0_t2_loop.trips) (d : Fin 96) (t : Fin 128) :
    (box8 k).emb (ix5 0 0 0 d t) = ix5 0 0 0 d (pos (rev k) t) :=
  Rect.emb_eq_of_coords _ _ _ fun a => by
    have hk : k.val < 64 := Nat.lt_of_lt_of_le k.isLt k0_t2_abs.2.1
    rw [show (box8 k).off = ![0, 0, 0, 0, 8064 - 128 * k.val] from k0_off8_eq k]
    match a with
    | ⟨0, _⟩ => rfl
    | ⟨1, _⟩ => rfl
    | ⟨2, _⟩ => rfl
    | ⟨3, _⟩ => show d.val = 0 + 1 * d.val; omega
    | ⟨4, _⟩ => show 128 * (63 - k.val) + t.val = 8064 - 128 * k.val + 1 * t.val; omega

theorem box9_emb (k : Fin k0_t2_loop.trips) (d : Fin 96) (t : Fin 128) :
    (box9 k).emb (ix5 0 0 0 d t) = ix5 0 0 1 d (pos (rev k) t) :=
  Rect.emb_eq_of_coords _ _ _ fun a => by
    have hk : k.val < 64 := Nat.lt_of_lt_of_le k.isLt k0_t2_abs.2.1
    rw [show (box9 k).off = ![0, 0, 1, 0, 8064 - 128 * k.val] from k0_off9_eq k]
    match a with
    | ⟨0, _⟩ => rfl
    | ⟨1, _⟩ => rfl
    | ⟨2, _⟩ => rfl
    | ⟨3, _⟩ => show d.val = 0 + 1 * d.val; omega
    | ⟨4, _⟩ => show 128 * (63 - k.val) + t.val = 8064 - 128 * k.val + 1 * t.val; omega

theorem box6_emb (k : Fin k0_t2_loop.trips) (d : Fin 96) (t : Fin 128) :
    (box6 k).emb (ix4 0 0 d t) = ix4 0 0 d (pos (rev k) t) :=
  Rect.emb_eq_of_coords _ _ _ fun a => by
    have hk : k.val < 64 := Nat.lt_of_lt_of_le k.isLt k0_t2_abs.2.1
    rw [show (box6 k).off = ![0, 0, 0, 8064 - 128 * k.val] from k0_off6_eq k]
    match a with
    | ⟨0, _⟩ => rfl
    | ⟨1, _⟩ => rfl
    | ⟨2, _⟩ => show d.val = 0 + 1 * d.val; omega
    | ⟨3, _⟩ => show 128 * (63 - k.val) + t.val = 8064 - 128 * k.val + 1 * t.val; omega

theorem box7_emb (k : Fin k0_t2_loop.trips) (e : Fin 192) (t : Fin 128) :
    (box7 k).emb (ix4 0 0 e t) = ix4 0 0 e (pos (rev k) t) :=
  Rect.emb_eq_of_coords _ _ _ fun a => by
    have hk : k.val < 64 := Nat.lt_of_lt_of_le k.isLt k0_t2_abs.2.1
    rw [show (box7 k).off = ![0, 0, 0, 8064 - 128 * k.val] from k0_off7_eq k]
    match a with
    | ⟨0, _⟩ => rfl
    | ⟨1, _⟩ => rfl
    | ⟨2, _⟩ => show e.val = 0 + 1 * e.val; omega
    | ⟨3, _⟩ => show 128 * (63 - k.val) + t.val = 8064 - 128 * k.val + 1 * t.val; omega

theorem row15_emb (k : Fin k0_t2_loop.trips) (d : Fin 96) (e : Fin 192) : (row15 k).emb (ix3 0 d e) = ix3 (rev k) d e :=
  Rect.emb_eq_of_coords _ _ _ fun a => by
    rw [show (row15 k).off = ![63 - k.val, 0, 0] from k0_off15_eq k]
    match a with
    | ⟨0, _⟩ => show 63 - k.val = 63 - k.val + 1 * 0; omega
    | ⟨1, _⟩ => show d.val = 0 + 1 * d.val; omega
    | ⟨2, _⟩ => show e.val = 0 + 1 * e.val; omega

/-- An index of a block of one chunk is its last two coordinates. -/
theorem idx5_eta (x : S1x1x1x96x128.Idx) : ∃ (d : Fin 96) (t : Fin 128), x = ix5 0 0 0 d t :=
  ⟨x 3, x 4, funext fun a => match a with
    | ⟨0, _⟩ => Fin.ext (by show (x 0).val = 0; have : (x 0).val < 1 := (x 0).isLt; omega)
    | ⟨1, _⟩ => Fin.ext (by show (x 1).val = 0; have : (x 1).val < 1 := (x 1).isLt; omega)
    | ⟨2, _⟩ => Fin.ext (by show (x 2).val = 0; have : (x 2).val < 1 := (x 2).isLt; omega)
    | ⟨3, _⟩ => rfl
    | ⟨4, _⟩ => rfl⟩
theorem idx4_eta {n m : ℕ} (x : (⟨4, ![1, 1, n, m]⟩ : Shape).Idx) : ∃ (d : Fin n) (t : Fin m), x = ix4 0 0 d t :=
  ⟨x 2, x 3, funext fun a => match a with
    | ⟨0, _⟩ => Fin.ext (by show (x 0).val = 0; have : (x 0).val < 1 := (x 0).isLt; omega)
    | ⟨1, _⟩ => Fin.ext (by show (x 1).val = 0; have : (x 1).val < 1 := (x 1).isLt; omega)
    | ⟨2, _⟩ => rfl
    | ⟨3, _⟩ => rfl⟩

theorem idx5b_eta (x : S1x1x2x96x8192.Idx) : ∃ (g : Fin 2) (d : Fin 96) (t : Fin 8192), x = ix5 0 0 g d t :=
  ⟨x 2, x 3, x 4, funext fun a => match a with
    | ⟨0, _⟩ => Fin.ext (by show (x 0).val = 0; have : (x 0).val < 1 := (x 0).isLt; omega)
    | ⟨1, _⟩ => Fin.ext (by show (x 1).val = 0; have : (x 1).val < 1 := (x 1).isLt; omega)
    | ⟨2, _⟩ => rfl
    | ⟨3, _⟩ => rfl
    | ⟨4, _⟩ => rfl⟩

variable (i : grid0.Coords)
  (x0 : Vec Ideal S4x64x16 .f32) (x1 x2 : Vec Ideal S4x64x8 .f32) (x3 : Vec Ideal S1x1x2x96x8192 .fp8e4m3)
  (x4 : Vec Ideal S1x1x96x8192 .fp8e4m3) (x5 : Vec Ideal S1x1x192x8192 .fp8e4m3)
  (x6 : Vec Ideal S1x1x2x192x8192 .fp8e5m2) (x7 : Vec Ideal S1x1x2x8192 .f32)
  (mask : Vec Ideal S128x256 .bf16) (tab : Vec Ideal S64x96x192 .bf16)
  (v15 : View sig .tc .vmem S192x96 .f32) (G15 : BufTy.Contents (Elt Ideal) v15.ty)
  (P : ℕ → List (View.Piece (Elt Ideal) S1x1x2x96x8192 .bf16) × List (View.Piece (Elt Ideal) S1x1x96x8192 .bf16)
    × List (View.Piece (Elt Ideal) S1x1x192x8192 .bf16) × List (View.Piece (Elt Ideal) S192x96 .f32))

/-- The pieces reverse trip `k` writes: of the blocks it loads, the mask, its row of the table of states and the state's
    cotangent as it finds it. -/
def revDq0 (k : Fin k0_t2_loop.trips) : Vec Ideal S1x1x1x96x128 .bf16 :=
  let B := revBlocks i x0 x1 x2 x3 x4 x5 x6 x7 k
  k0_pay19 (F := Ideal) B.vs (k0_pay6 B.v) B.kb B.do2 B.dos2 B.dob (View.ld mask whole16) (View.ld tab (row15 k))
def revDq1 (k : Fin k0_t2_loop.trips) : Vec Ideal S1x1x1x96x128 .bf16 :=
  let B := revBlocks i x0 x1 x2 x3 x4 x5 x6 x7 k
  k0_pay1 (F := Ideal) (k0_pay20 (F := Ideal) B.vs (k0_pay6 B.v) B.kb B.do2 B.dos2 B.dob (View.ld mask whole16) (View.ld tab (row15 k)))
def revDk (k : Fin k0_t2_loop.trips) (ds : Vec Ideal S192x96 .f32) : Vec Ideal S1x1x96x128 .bf16 :=
  let B := revBlocks i x0 x1 x2 x3 x4 x5 x6 x7 k
  k0_pay2 (F := Ideal) B.vb B.qb (B.at2 (View.ld mask whole16)) (k0_pay17 (View.ld ds whole15))
def revDv (k : Fin k0_t2_loop.trips) (ds : Vec Ideal S192x96 .f32) : Vec Ideal S1x1x192x128 .bf16 :=
  let B := revBlocks i x0 x1 x2 x3 x4 x5 x6 x7 k
  k0_pay3 (F := Ideal) B.kb B.dob (B.pt2 (View.ld mask whole16)) (k0_pay17 (View.ld ds whole15))
def revDs (k : Fin k0_t2_loop.trips) (ds : Vec Ideal S192x96 .f32) : Vec Ideal S192x96 .f32 :=
  let B := revBlocks i x0 x1 x2 x3 x4 x5 x6 x7 k
  k0_pay4 (F := Ideal) B.qb B.dob (View.ld ds whole15)

/-- How the lists of pieces written grow, a trip at a time. -/
structure RevRec : Prop where
  zero : P 0 = ([], [], [], [])
  succ : ∀ k : Fin k0_t2_loop.trips, P (k.val + 1)
    = (⟨box9 k, revDq1 i x0 x1 x2 x3 x4 x5 x6 x7 mask tab k⟩ :: ⟨box8 k, revDq0 i x0 x1 x2 x3 x4 x5 x6 x7 mask tab k⟩ :: (P k.val).1,
       ⟨box6 k, revDk i x0 x1 x2 x3 x4 x5 x6 x7 mask k (v15.read (Elt Ideal) (v15.writes (Elt Ideal) G15 (P k.val).2.2.2))⟩ :: (P k.val).2.1,
       ⟨box7 k, revDv i x0 x1 x2 x3 x4 x5 x6 x7 mask k (v15.read (Elt Ideal) (v15.writes (Elt Ideal) G15 (P k.val).2.2.2))⟩ :: (P k.val).2.2.1,
       ⟨whole15, revDs i x0 x1 x2 x3 x4 x5 x6 x7 k (v15.read (Elt Ideal) (v15.writes (Elt Ideal) G15 (P k.val).2.2.2))⟩ :: (P k.val).2.2.2)

/-- What holds before trip `k`. -/
structure RevInv (H : Head) (k : ℕ) : Prop where
  dstate : ∀ e d, v15.read (Elt Ideal) (v15.writes (Elt Ideal) G15 (P k).2.2.2) (ix2 e d) = H.T (64 - k) e d
  dq : ∀ p ∈ (P k).1, ∀ x : p.1.shape.Idx, p.2 x = outDq H (p.1.emb x)
  dk : ∀ p ∈ (P k).2.1, ∀ x : p.1.shape.Idx, p.2 x = outDk H (p.1.emb x)
  dv : ∀ p ∈ (P k).2.2.1, ∀ x : p.1.shape.Idx, p.2 x = outDv H (p.1.emb x)
  coverDq : ∀ n : Fin 64, 64 - k ≤ n.val → ∀ g d t, ∃ p ∈ (P k).1, (ix5 0 0 g d (pos n t) : S1x1x2x96x8192.Idx) ∈ p.1.set
  coverDk : ∀ n : Fin 64, 64 - k ≤ n.val → ∀ d t, ∃ p ∈ (P k).2.1, (ix4 0 0 d (pos n t) : S1x1x96x8192.Idx) ∈ p.1.set
  coverDv : ∀ n : Fin 64, 64 - k ≤ n.val → ∀ e t, ∃ p ∈ (P k).2.2.1, (ix4 0 0 e (pos n t) : S1x1x192x8192.Idx) ∈ p.1.set

variable {i x0 x1 x2 x3 x4 x5 x6 x7 mask tab v15 G15 P}

theorem RevRec.inv (hP : RevRec i x0 x1 x2 x3 x4 x5 x6 x7 mask tab v15 G15 P)
    (hm : ∀ x g t, mask (ix2 x (gcol g t)) = if x.val ≤ t.val then 1 else 0)
    (ht : ∀ (n : Fin 64) d e, tab (ix3 n d e) = (headOf i x0 x1 x2 x3 x4 x5 x6 x7).S n.val d e)
    (hG : ∀ e d, v15.read (Elt Ideal) G15 (ix2 e d) = 0) :
    ∀ k, k ≤ 64 → RevInv v15 G15 P (headOf i x0 x1 x2 x3 x4 x5 x6 x7) k
  | 0, _ => by
    constructor
    · intro d e
      rw [hP.zero, Head.T_last]
      exact hG d e
    all_goals first
      | (rw [hP.zero]; intro p hp; exact absurd hp List.not_mem_nil)
      | (intro n hn; exact absurd n.isLt (by omega))
  | k + 1, hk => by
    have ih := RevRec.inv hP hm ht hG k (by omega)
    have hs := hP.succ ⟨k, by rw [trips2]; omega⟩
    have hB := revBlocks_holds i x0 x1 x2 x3 x4 x5 x6 x7 ⟨k, by rw [trips2]; omega⟩
    generalize hj : (⟨k, by rw [trips2]; omega⟩ : Fin k0_t2_loop.trips) = j at hs hB
    have hjk : j.val = k := by rw [← hj]
    have hn1 : (rev j).val = 63 - k := by rw [← hj]; rfl
    have hld : ∀ e d, View.ld (v15.read (Elt Ideal) (v15.writes (Elt Ideal) G15 (P k).2.2.2)) whole15 (ix2 e d)
        = (headOf i x0 x1 x2 x3 x4 x5 x6 x7).T ((rev j).val + 1) e d := fun e d => by
      refine (congrArg (v15.read (Elt Ideal) (v15.writes (Elt Ideal) G15 (P k).2.2.2)) (emb15 e d)).trans ((ih.dstate e d).trans ?_)
      rw [hn1, show 63 - k + 1 = 64 - k by omega]
    have hmk : ∀ x g t, View.ld mask whole16 (ix2 x (gcol g t)) = if x.val ≤ t.val then 1 else 0 := fun x g t =>
      (congrArg mask (emb16 x (gcol g t))).trans (hm x g t)
    have htb : ∀ d e, View.ld tab (row15 j) (ix3 0 d e) = (headOf i x0 x1 x2 x3 x4 x5 x6 x7).S (rev j).val d e := fun d e =>
      (congrArg tab (row15_emb j d e)).trans (ht (rev j) d e)
    rw [hjk] at hs
    constructor
    · intro e d
      rw [hs]
      refine (View.read_writes_cons_hit v15 G15 whole15 _ _ (ix2 e d) (ix2 e d) (emb15 e d)).trans ?_
      refine (hB.dstate_apply hld e d).trans ?_
      rw [hn1, show 63 - k = 64 - (k + 1) by omega]
    · rw [hs]
      intro p hp
      rcases List.mem_cons.1 hp with rfl | hp
      · intro x
        obtain ⟨d, t, rfl⟩ := idx5_eta x
        refine ((pay20_apply _ _ _ _ _ _ _ _ d t).trans (hB.dq_apply hmk htb 1 d t)).trans ?_
        rw [box9_emb]
        show _ = Head.dq _ scale 1 (chunkOf (pos (rev j) t)) (placeOf (pos (rev j) t)) d
        rw [chunkOf_pos, placeOf_pos]
      rcases List.mem_cons.1 hp with rfl | hp
      · intro x
        obtain ⟨d, t, rfl⟩ := idx5_eta x
        refine ((pay19_apply _ _ _ _ _ _ _ _ d t).trans (hB.dq_apply hmk htb 0 d t)).trans ?_
        rw [box8_emb]
        show _ = Head.dq _ scale 0 (chunkOf (pos (rev j) t)) (placeOf (pos (rev j) t)) d
        rw [chunkOf_pos, placeOf_pos]
      · exact ih.dq p hp
    · rw [hs]
      intro p hp
      rcases List.mem_cons.1 hp with rfl | hp
      · intro x
        obtain ⟨d, t, rfl⟩ := idx4_eta (n := 96) (m := 128) x
        refine (hB.dk_apply hmk hld d t).trans ?_
        rw [box6_emb]
        show _ = Head.dk _ scale (chunkOf (pos (rev j) t)) (placeOf (pos (rev j) t)) d
        rw [chunkOf_pos, placeOf_pos]
      · exact ih.dk p hp
    · rw [hs]
      intro p hp
      rcases List.mem_cons.1 hp with rfl | hp
      · intro x
        obtain ⟨e, t, rfl⟩ := idx4_eta (n := 192) (m := 128) x
        refine (hB.dv_apply hmk hld e t).trans ?_
        rw [box7_emb]
        show _ = Head.dv _ scale (chunkOf (pos (rev j) t)) (placeOf (pos (rev j) t)) e
        rw [chunkOf_pos, placeOf_pos]
      · exact ih.dv p hp
    · intro n hn g d t
      rw [hs]
      rcases Nat.lt_or_ge n.val (64 - k) with h | h
      · have hn' : n = rev j := Fin.ext (by omega)
        subst hn'
        revert g
        refine Fin.forall_fin_two.2 ⟨?_, ?_⟩
        · refine ⟨_, List.mem_cons_of_mem _ List.mem_cons_self, ?_⟩
          rw [← box8_emb]
          exact (box8 j).idx_mem _
        · refine ⟨_, List.mem_cons_self, ?_⟩
          rw [← box9_emb]
          exact (box9 j).idx_mem _
      · obtain ⟨p, hp, hm'⟩ := ih.coverDq n h g d t
        exact ⟨p, List.mem_cons_of_mem _ (List.mem_cons_of_mem _ hp), hm'⟩
    · intro n hn d t
      rw [hs]
      rcases Nat.lt_or_ge n.val (64 - k) with h | h
      · have hn' : n = rev j := Fin.ext (by omega)
        subst hn'
        refine ⟨_, List.mem_cons_self, ?_⟩
        rw [← box6_emb]
        exact (box6 j).idx_mem _
      · obtain ⟨p, hp, hm'⟩ := ih.coverDk n h d t
        exact ⟨p, List.mem_cons_of_mem _ hp, hm'⟩
    · intro n hn d t
      rw [hs]
      rcases Nat.lt_or_ge n.val (64 - k) with h | h
      · have hn' : n = rev j := Fin.ext (by omega)
        subst hn'
        refine ⟨_, List.mem_cons_self, ?_⟩
        rw [← box7_emb]
        exact (box7 j).idx_mem _
      · obtain ⟨p, hp, hm'⟩ := ih.coverDv n h d t
        exact ⟨p, List.mem_cons_of_mem _ hp, hm'⟩

/-- After the loop each of the three results holds its values, whatever was there before. -/
theorem RevRec.results (hP : RevRec i x0 x1 x2 x3 x4 x5 x6 x7 mask tab v15 G15 P)
    (hm : ∀ x g t, mask (ix2 x (gcol g t)) = if x.val ≤ t.val then 1 else 0)
    (ht : ∀ (n : Fin 64) d e, tab (ix3 n d e) = (headOf i x0 x1 x2 x3 x4 x5 x6 x7).S n.val d e)
    (hG : ∀ e d, v15.read (Elt Ideal) G15 (ix2 e d) = 0)
    (v10 : View sig .tc .vmem S1x1x2x96x8192 .bf16) (f10 : BufTy.Contents (Elt Ideal) v10.ty)
    (v11 : View sig .tc .vmem S1x1x96x8192 .bf16) (f11 : BufTy.Contents (Elt Ideal) v11.ty)
    (v12 : View sig .tc .vmem S1x1x192x8192 .bf16) (f12 : BufTy.Contents (Elt Ideal) v12.ty) :
    v10.read (Elt Ideal) (v10.writes (Elt Ideal) f10 (P 64).1) = outDq (headOf i x0 x1 x2 x3 x4 x5 x6 x7)
    ∧ v11.read (Elt Ideal) (v11.writes (Elt Ideal) f11 (P 64).2.1) = outDk (headOf i x0 x1 x2 x3 x4 x5 x6 x7)
    ∧ v12.read (Elt Ideal) (v12.writes (Elt Ideal) f12 (P 64).2.2.1) = outDv (headOf i x0 x1 x2 x3 x4 x5 x6 x7) := by
  have h := hP.inv hm ht hG 64 (Nat.le_refl _)
  refine ⟨funext fun y => ?_, funext fun y => ?_, funext fun y => ?_⟩
  · obtain ⟨g, d, p, rfl⟩ := idx5b_eta y
    refine View.read_writes_apply_of_pieces v10 f10 _ _ h.dq _ ?_
    have hc := h.coverDq (chunkOf p) (by omega) g d (placeOf p)
    rwa [pos_eta] at hc
  · obtain ⟨d, p, rfl⟩ := idx4_eta (n := 96) (m := 8192) y
    refine View.read_writes_apply_of_pieces v11 f11 _ _ h.dk _ ?_
    have hc := h.coverDk (chunkOf p) (by omega) d (placeOf p)
    rwa [pos_eta] at hc
  · obtain ⟨d, p, rfl⟩ := idx4_eta (n := 192) (m := 8192) y
    refine View.read_writes_apply_of_pieces v12 f12 _ _ h.dv _ ?_
    have hc := h.coverDv (chunkOf p) (by omega) d (placeOf p)
    rwa [pos_eta] at hc

end Cert.KernelIdeal.Hand
end
-- ==== Proof.Steps.lean ====
module

public import proofs.«01_k».proof.Proof.Rev
public import proofs.«01_k».proof.Proof.Gen.KernelIdeal.Loops

/-! The two loops of the kernel's body write the pieces `FwdRec` and `RevRec` describe. -/

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem Cert.KernelIdeal.Gen Cert.Hand

variable (c : Dev nD) (i : grid0.Coords)
  (arg2 : Memref sig .tc .smem S4x64x16 .f32) (harg2 : arg2.IsWhole) (arg3 : Memref sig .tc .smem S4x64x8 .f32) (harg3 : arg3.IsWhole) (arg4 : Memref sig .tc .smem S4x64x8 .f32) (harg4 : arg4.IsWhole) (arg5 : Memref sig .tc .vmem S1x1x2x96x8192 .fp8e4m3) (harg5 : arg5.IsWhole) (arg6 : Memref sig .tc .vmem S1x1x96x8192 .fp8e4m3) (harg6 : arg6.IsWhole) (arg7 : Memref sig .tc .vmem S1x1x192x8192 .fp8e4m3) (harg7 : arg7.IsWhole) (arg8 : Memref sig .tc .vmem S1x1x2x192x8192 .fp8e5m2) (harg8 : arg8.IsWhole) (arg9 : Memref sig .tc .vmem S1x1x2x8192 .f32) (harg9 : arg9.IsWhole) (arg10 : Memref sig .tc .vmem S1x1x2x96x8192 .bf16) (harg10 : arg10.IsWhole) (arg11 : Memref sig .tc .vmem S1x1x96x8192 .bf16) (harg11 : arg11.IsWhole) (arg12 : Memref sig .tc .vmem S1x1x192x8192 .bf16) (harg12 : arg12.IsWhole) (arg13 : Memref sig .tc .vmem S64x96x192 .bf16) (harg13 : arg13.IsWhole) (arg14 : Memref sig .tc .vmem S96x192 .f32) (harg14 : arg14.IsWhole) (arg15 : Memref sig .tc .vmem S192x96 .f32) (harg15 : arg15.IsWhole) (arg16 : Memref sig .tc .vmem S128x256 .bf16) (harg16 : arg16.IsWhole)
  (x0 : Vec Ideal S4x64x16 .f32) (x1 x2 : Vec Ideal S4x64x8 .f32) (x3 : Vec Ideal S1x1x2x96x8192 .fp8e4m3)
  (x4 : Vec Ideal S1x1x96x8192 .fp8e4m3) (x5 : Vec Ideal S1x1x192x8192 .fp8e4m3)
  (x6 : Vec Ideal S1x1x2x192x8192 .fp8e5m2) (x7 : Vec Ideal S1x1x2x8192 .f32)
  (X13 : BufTy.Contents (Elt Ideal) arg13.view.ty) (X16 : BufTy.Contents (Elt Ideal) arg16.view.ty)
  (G10 : BufTy.Contents (Elt Ideal) arg10.view.ty) (G11 : BufTy.Contents (Elt Ideal) arg11.view.ty)
  (G12 : BufTy.Contents (Elt Ideal) arg12.view.ty) (G13 : BufTy.Contents (Elt Ideal) arg13.view.ty)
  (G14 : BufTy.Contents (Elt Ideal) arg14.view.ty) (G15 : BufTy.Contents (Elt Ideal) arg15.view.ty)

/-- The forward loop. -/
theorem fwdRec : FwdRec i x1 x2 x4 x5 arg14.view G14
    (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg6.unread x4) (harg7.unread x5) G13 G14) where
  zero := rfl
  succ k := by
    rw [pb_k0_t1_succ]
    generalize pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg6.unread x4) (harg7.unread x5) G13 G14 k.val = Q
    dsimp only [tripL_k0_t1]
    unfold trip_k0_t1
    dsimp only
    sl_unfold_run_names
    dsimp only
    simp only [View.readAt_eq_ld, Memref.IsWhole.read_unread]
    rfl

/-- The reverse loop. -/
theorem revRec (arg0 arg1 : BitVec 32) : RevRec i x0 x1 x2 x3 x4 x5 x6 x7 (arg16.view.read (Elt Ideal) X16) (arg13.view.read (Elt Ideal) X13) arg15.view G15
    (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 (harg2.unread x0) (harg3.unread x1) (harg4.unread x2) (harg5.unread x3) (harg6.unread x4) (harg7.unread x5) (harg8.unread x6) (harg9.unread x7) X13 X16 G10 G11 G12 G15) where
  zero := rfl
  succ k := by
    rw [pb_k0_t2_succ]
    generalize pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 (harg2.unread x0) (harg3.unread x1) (harg4.unread x2) (harg5.unread x3) (harg6.unread x4) (harg7.unread x5) (harg8.unread x6) (harg9.unread x7) X13 X16 G10 G11 G12 G15 k.val = Q
    dsimp only [tripL_k0_t2]
    unfold trip_k0_t2
    dsimp only
    sl_unfold_run_names
    dsimp only
    simp only [View.readAt_eq_ld, Memref.IsWhole.read_unread]
    rfl

/-- After both loops the three results hold their values, whatever the buffers held before the body: the state and its cotangent
    are cleared and the mask is written first. -/
theorem body_results (arg0 arg1 : BitVec 32) (g16 : BufTy.Contents (Elt Ideal) arg16.view.ty) (n1 n2 : ℕ) (h1 : n1 = 64) (h2 : n2 = 64) :
    let P := pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 (harg2.unread x0) (harg3.unread x1) (harg4.unread x2) (harg5.unread x3) (harg6.unread x4) (harg7.unread x5) (harg8.unread x6) (harg9.unread x7)
      (arg13.view.writes (Elt Ideal) G13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg6.unread x4) (harg7.unread x5) G13
        (arg14.view.writes (Elt Ideal) G14 [⟨whole14, k0_pay22 (F := Ideal)⟩]) n1).1)
      (arg16.view.writes (Elt Ideal) g16 [⟨whole16, k0_pay21 (F := Ideal)⟩]) G10 G11 G12 (arg15.view.writes (Elt Ideal) G15 [⟨whole15, k0_pay25 (F := Ideal)⟩]) n2
    arg10.view.read (Elt Ideal) (arg10.view.writes (Elt Ideal) G10 P.1) = outDq (headOf i x0 x1 x2 x3 x4 x5 x6 x7)
    ∧ arg11.view.read (Elt Ideal) (arg11.view.writes (Elt Ideal) G11 P.2.1) = outDk (headOf i x0 x1 x2 x3 x4 x5 x6 x7)
    ∧ arg12.view.read (Elt Ideal) (arg12.view.writes (Elt Ideal) G12 P.2.2.1) = outDv (headOf i x0 x1 x2 x3 x4 x5 x6 x7) := by
  subst h1 h2
  dsimp only
  refine (revRec c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 _ _ G10 G11 G12 _ arg0 arg1).results ?_ ?_ ?_ _ _ _ _ _ _
  · intro x g t
    exact (View.read_writes_cons_hit arg16.view g16 whole16 _ _ (ix2 x (gcol g t)) (ix2 x (gcol g t)) (emb16 _ _)).trans (pay21_apply x g t)
  · intro n d e
    refine (fwdRec c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 G13 _).table x0 x3 x6 x7 (fun d e => ?_) arg13.view G13 n d e
    exact (View.read_writes_cons_hit arg14.view G14 whole14 _ _ (ix2 d e) (ix2 d e) (emb14 _ _)).trans (pay22_apply d e)
  · intro e d
    exact (View.read_writes_cons_hit arg15.view G15 whole15 _ _ (ix2 e d) (ix2 e d) (emb15 _ _)).trans (pay25_apply d e)

end Cert.KernelIdeal.Hand
end
-- ==== Proof.Run.lean ====
module

public import proofs.«01_k».proof.Proof.Gen.KernelIdeal.Frame.Runs
public import proofs.«01_k».proof.Proof.Steps

/-! The kernel's body, run at one grid point: from any contents of the results and of the scratch it ends with the three
    results at their values and the operands unchanged. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Hand
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 4000000 in
/-- The body's triple. -/
theorem kernelRun (c : Dev nD) (i : grid0.Coords) (arg2 : Memref sig .tc .smem S4x64x16 .f32) (harg2 : arg2.IsWhole) (arg3 : Memref sig .tc .smem S4x64x8 .f32) (harg3 : arg3.IsWhole) (arg4 : Memref sig .tc .smem S4x64x8 .f32) (harg4 : arg4.IsWhole) (arg5 : Memref sig .tc .vmem S1x1x2x96x8192 .fp8e4m3) (harg5 : arg5.IsWhole) (arg6 : Memref sig .tc .vmem S1x1x96x8192 .fp8e4m3) (harg6 : arg6.IsWhole) (arg7 : Memref sig .tc .vmem S1x1x192x8192 .fp8e4m3) (harg7 : arg7.IsWhole) (arg8 : Memref sig .tc .vmem S1x1x2x192x8192 .fp8e5m2) (harg8 : arg8.IsWhole) (arg9 : Memref sig .tc .vmem S1x1x2x8192 .f32) (harg9 : arg9.IsWhole) (arg10 : Memref sig .tc .vmem S1x1x2x96x8192 .bf16) (harg10 : arg10.IsWhole) (arg11 : Memref sig .tc .vmem S1x1x96x8192 .bf16) (harg11 : arg11.IsWhole) (arg12 : Memref sig .tc .vmem S1x1x192x8192 .bf16) (harg12 : arg12.IsWhole) (arg13 : Memref sig .tc .vmem S64x96x192 .bf16) (harg13 : arg13.IsWhole) (arg14 : Memref sig .tc .vmem S96x192 .f32) (harg14 : arg14.IsWhole) (arg15 : Memref sig .tc .vmem S192x96 .f32) (harg15 : arg15.IsWhole) (arg16 : Memref sig .tc .vmem S128x256 .bf16) (harg16 : arg16.IsWhole)
    (x0 : Vec Ideal S4x64x16 .f32) (x1 : Vec Ideal S4x64x8 .f32) (x2 : Vec Ideal S4x64x8 .f32) (x3 : Vec Ideal S1x1x2x96x8192 .fp8e4m3) (x4 : Vec Ideal S1x1x96x8192 .fp8e4m3) (x5 : Vec Ideal S1x1x192x8192 .fp8e4m3) (x6 : Vec Ideal S1x1x2x192x8192 .fp8e5m2) (x7 : Vec Ideal S1x1x2x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outDq (headOf i x0 x1 x2 x3 x4 x5 x6 x7)) ∗ owns (c : Thread nD τ) arg11 fullShare (outDk (headOf i x0 x1 x2 x3 x4 x5 x6 x7)) ∗ owns (c : Thread nD τ) arg12 fullShare (outDv (headOf i x0 x1 x2 x3 x4 x5 x6 x7)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := Ideal)) Variants.none c none) E (cc0_linattn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_linattn_bwd_eq_skeleton]; unfold cc0_linattn_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; exact (body_results c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 f8 f9 f10 fs0 arg14.view.junk arg15.view.junk _ _ arg16.view.junk _ _ trips1 trips2).1
    isplitl [H9]
    · iexists _; isplitr; swap; · iexact H9
      ipureintro; exact (body_results c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 f8 f9 f10 fs0 arg14.view.junk arg15.view.junk _ _ arg16.view.junk _ _ trips1 trips2).2.1
    isplitl [H10]
    · iexists _; isplitr; swap; · iexact H10
      ipureintro; exact (body_results c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 f8 f9 f10 fs0 arg14.view.junk arg15.view.junk _ _ arg16.view.junk _ _ trips1 trips2).2.2
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Hand

end
-- ==== Proof.KernelRun.lean ====
module

public import proofs.«01_k».proof.Proof.Run
public import Idealize.ShloMosaic.Lib.Claim

/-! The kernel's run: the pipeline's proof data with each grid point's results at the values `Spec` gives, the run and the frame. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Hand
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What grid point `t` is handed, as a `Head`. -/
def pointHead (c : Dev nD) (t : Fin cfg0.N) : Head :=
  headOf (grid0.coords t) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at the values `Spec` gives; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outDq (pointHead m c t)
    | ⟨9, _⟩ => outDk (pointHead m c t)
    | ⟨10, _⟩ => outDv (pointHead m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outDq (pointHead m c t) := by dsimp only [dats]
theorem after0_9 (c : Dev nD) (t : Fin cfg0.N) : (dats m 0 c).after 9 t = outDk (pointHead m c t) := by dsimp only [dats]
theorem after0_10 (c : Dev nD) (t : Fin cfg0.N) : (dats m 0 c).after 10 t = outDv (pointHead m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the run ends, the argument arrays as they were and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.Points.lean ====
module

public import proofs.«01_k».proof.Proof.KernelRun
public import Idealize.ShloMosaic.Lib.StableHlo.RunRead

/-! What each grid point is handed, in terms of the argument arrays: point `(b, h)` gets batch entry `b`'s key head `h`. -/

@[expose] public section

set_option maxRecDepth 8192

noncomputable section

namespace Cert.KernelIdeal.Hand

open Idealize.ShloMosaic Idealize.ShloMosaic.TcCoe Idealize.ShloMosaic.Tactic
open Cert.KernelIdeal.Gen Cert.Hand
open scoped BigOperators

variable (m : (ℓ : Loc nD τ sig) → Buf (Elt Ideal) ℓ)

/-- The argument arrays in core `c`'s memory. -/
def args (c : Dev nD) : Args where
  q := m ((c.tc : Thread nD τ).loc main_arg0)
  k := m ((c.tc : Thread nD τ).loc main_arg1)
  v := m ((c.tc : Thread nD τ).loc main_arg2)
  qs := m ((c.tc : Thread nD τ).loc main_arg3)
  ks := m ((c.tc : Thread nD τ).loc main_arg4)
  vs := m ((c.tc : Thread nD τ).loc main_arg5)
  dO := m ((c.tc : Thread nD τ).loc main_arg6)
  dos := m ((c.tc : Thread nD τ).loc main_arg7)

/-! The block each window takes at a grid point. -/

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, (grid0.coords t 1).val, 0, 0, 0] := (by decide +kernel : ∀ t : Fin grid0.N, _)
theorem index4 : ∀ t : Fin cfg0.N, win0_4.index t = ![(grid0.coords t 0).val, (grid0.coords t 1).val, 0, 0] := (by decide +kernel : ∀ t : Fin grid0.N, _)
theorem index5 : ∀ t : Fin cfg0.N, win0_5.index t = ![(grid0.coords t 0).val, (grid0.coords t 1).val, 0, 0] := (by decide +kernel : ∀ t : Fin grid0.N, _)
theorem index6 : ∀ t : Fin cfg0.N, win0_6.index t = ![(grid0.coords t 0).val, (grid0.coords t 1).val, 0, 0, 0] := (by decide +kernel : ∀ t : Fin grid0.N, _)
theorem index7 : ∀ t : Fin cfg0.N, win0_7.index t = ![(grid0.coords t 0).val, (grid0.coords t 1).val, 0, 0] := (by decide +kernel : ∀ t : Fin grid0.N, _)
theorem index8 : ∀ t : Fin cfg0.N, win0_8.index t = ![(grid0.coords t 0).val, (grid0.coords t 1).val, 0, 0, 0] := (by decide +kernel : ∀ t : Fin grid0.N, _)
theorem index9 : ∀ t : Fin cfg0.N, win0_9.index t = ![(grid0.coords t 0).val, (grid0.coords t 1).val, 0, 0] := (by decide +kernel : ∀ t : Fin grid0.N, _)
theorem index10 : ∀ t : Fin cfg0.N, win0_10.index t = ![(grid0.coords t 0).val, (grid0.coords t 1).val, 0, 0] := (by decide +kernel : ∀ t : Fin grid0.N, _)

/-! The arrays the windows read, in terms of the arguments. -/

theorem V_qs (c : Dev nD) : V m c main_arg3 = m ((c.tc : Thread nD τ).loc main_arg3) := by
  show StableHlo.after hostOps0 (fun b => m (c, b)) (Proc.devRef .tc main_arg3) = _
  after_reads_simp
theorem V_ks (c : Dev nD) : V m c main_arg4 = m ((c.tc : Thread nD τ).loc main_arg4) := by
  show StableHlo.after hostOps0 (fun b => m (c, b)) (Proc.devRef .tc main_arg4) = _
  after_reads_simp
theorem V_vs (c : Dev nD) : V m c main_arg5 = m ((c.tc : Thread nD τ).loc main_arg5) := by
  show StableHlo.after hostOps0 (fun b => m (c, b)) (Proc.devRef .tc main_arg5) = _
  after_reads_simp

theorem V_q (c : Dev nD) (b : Fin 4) (h : Fin 8) (g : Fin 2) (d : Fin 96) (p : Fin 8192) :
    V m c main_v1 (ix5 b h g d p) = m ((c.tc : Thread nD τ).loc main_arg0) (ix4 b p (qhead h g) d) := by
  have e : V m c main_v1 = shapeCast S4x8x2x96x8192 (transpose S4x16x96x8192 [0, 2, 3, 1] (m ((c.tc : Thread nD τ).loc main_arg0)) transposes_S4x8192x16x96_S4x16x96x8192_0_2_3_1) shapeCasts_S4x16x96x8192_S4x8x2x96x8192 := by
    show StableHlo.after hostOps0 (fun b => m (c, b)) (Proc.devRef .tc main_v1) = _
    after_reads_simp
    rfl
  rw [e]
  pointwise
  refine congrArg (fun x => m ((c.tc : Thread nD τ).loc main_arg0) (ix4 b p x d)) (Fin.ext ?_)
  show h.val * 2 + g.val = 2 * h.val + g.val
  omega

theorem V_k (c : Dev nD) (b : Fin 4) (h : Fin 8) (d : Fin 96) (p : Fin 8192) :
    V m c main_v2 (ix4 b h d p) = m ((c.tc : Thread nD τ).loc main_arg1) (ix4 b p h d) := by
  have e : V m c main_v2 = transpose S4x8x96x8192 [0, 2, 3, 1] (m ((c.tc : Thread nD τ).loc main_arg1)) transposes_S4x8192x8x96_S4x8x96x8192_0_2_3_1 := by
    show StableHlo.after hostOps0 (fun b => m (c, b)) (Proc.devRef .tc main_v2) = _
    after_reads_simp
  rw [e]
  pointwise

theorem V_v (c : Dev nD) (b : Fin 4) (h : Fin 8) (x : Fin 192) (p : Fin 8192) :
    V m c main_v3 (ix4 b h x p) = m ((c.tc : Thread nD τ).loc main_arg2) (ix4 b p h x) := by
  have e : V m c main_v3 = transpose S4x8x192x8192 [0, 2, 3, 1] (m ((c.tc : Thread nD τ).loc main_arg2)) transposes_S4x8192x8x192_S4x8x192x8192_0_2_3_1 := by
    show StableHlo.after hostOps0 (fun b => m (c, b)) (Proc.devRef .tc main_v3) = _
    after_reads_simp
  rw [e]
  pointwise

theorem V_dO (c : Dev nD) (b : Fin 4) (h : Fin 8) (g : Fin 2) (x : Fin 192) (p : Fin 8192) :
    V m c main_v5 (ix5 b h g x p) = m ((c.tc : Thread nD τ).loc main_arg6) (ix4 b p (qhead h g) x) := by
  have e : V m c main_v5 = shapeCast S4x8x2x192x8192 (transpose S4x16x192x8192 [0, 2, 3, 1] (m ((c.tc : Thread nD τ).loc main_arg6)) transposes_S4x8192x16x192_S4x16x192x8192_0_2_3_1) shapeCasts_S4x16x192x8192_S4x8x2x192x8192 := by
    show StableHlo.after hostOps0 (fun b => m (c, b)) (Proc.devRef .tc main_v5) = _
    after_reads_simp
    rfl
  rw [e]
  pointwise
  refine congrArg (fun y => m ((c.tc : Thread nD τ).loc main_arg6) (ix4 b p y x)) (Fin.ext ?_)
  show h.val * 2 + g.val = 2 * h.val + g.val
  omega

theorem V_dos (c : Dev nD) (b : Fin 4) (h : Fin 8) (g : Fin 2) (p : Fin 8192) :
    V m c main_v7 (ix4 b h g p) = m ((c.tc : Thread nD τ).loc main_arg7) (ix3 b p (qhead h g)) := by
  have e : V m c main_v7 = shapeCast S4x8x2x8192 (transpose S4x16x8192 [0, 2, 1] (m ((c.tc : Thread nD τ).loc main_arg7)) transposes_S4x8192x16_S4x16x8192_0_2_1) shapeCasts_S4x16x8192_S4x8x2x8192 := by
    show StableHlo.after hostOps0 (fun b => m (c, b)) (Proc.devRef .tc main_v7) = _
    after_reads_simp
    rfl
  rw [e]
  pointwise
  refine congrArg (fun y => m ((c.tc : Thread nD τ).loc main_arg7) (ix3 b p y)) (Fin.ext ?_)
  show h.val * 2 + g.val = 2 * h.val + g.val
  omega

set_option maxHeartbeats 2000000 in
/-- What grid point `t` is handed is the `Head` of its batch entry and key head. -/
theorem pointHead_eq (c : Dev nD) (t : Fin cfg0.N) :
    pointHead m c t = (args m c).head (grid0.coords t 0) (grid0.coords t 1) := by
  unfold pointHead headOf Args.head args
  congr 1
  · funext g n s d
    refine Eq.trans ?_ (V_q m c (grid0.coords t 0) (grid0.coords t 1) g d (pos n s))
    blk_simp [iblk]
    refine congrArg (V m c main_v1) ?_
    blk_ext [index3 t]
  · funext n s d
    refine Eq.trans ?_ (V_k m c (grid0.coords t 0) (grid0.coords t 1) d (pos n s))
    blk_simp [iblk]
    refine congrArg (V m c main_v2) ?_
    blk_ext [index4 t]
  · funext n s e
    refine Eq.trans ?_ (V_v m c (grid0.coords t 0) (grid0.coords t 1) e (pos n s))
    blk_simp [iblk]
    refine congrArg (V m c main_v3) ?_
    blk_ext [index5 t]
  · funext g n s e
    refine Eq.trans ?_ (V_dO m c (grid0.coords t 0) (grid0.coords t 1) g e (pos n s))
    blk_simp [iblk]
    refine congrArg (V m c main_v5) ?_
    blk_ext [index6 t]
  · funext g n
    refine Eq.trans ?_ (congrFun (V_qs m c) (ix3 (grid0.coords t 0) n (qhead (grid0.coords t 1) g)))
    blk_simp [iblk]
    refine congrArg (V m c main_arg3) ?_
    blk_ext [index0 t]
  · funext n
    refine Eq.trans ?_ (congrFun (V_ks m c) (ix3 (grid0.coords t 0) n (grid0.coords t 1)))
    blk_simp [iblk]
    refine congrArg (V m c main_arg4) ?_
    blk_ext [index1 t]
  · funext n
    refine Eq.trans ?_ (congrFun (V_vs m c) (ix3 (grid0.coords t 0) n (grid0.coords t 1)))
    blk_simp [iblk]
    refine congrArg (V m c main_arg5) ?_
    blk_ext [index2 t]
  · funext g n s
    refine Eq.trans ?_ (V_dos m c (grid0.coords t 0) (grid0.coords t 1) g (pos n s))
    blk_simp [iblk]
    refine congrArg (V m c main_v7) ?_
    blk_ext [index7 t]

end Cert.KernelIdeal.Hand
end
-- ==== Proof.KernelValue.lean ====
module

public import proofs.«01_k».proof.Proof.Points

/-! The kernel's three results after its run, as functions of the argument arrays. -/

@[expose] public section

set_option maxRecDepth 8192

noncomputable section

namespace Cert.KernelIdeal.Hand

open Idealize.ShloMosaic Idealize.ShloMosaic.TcCoe Idealize.ShloMosaic.Tactic
open Idealize.SL.Sem
open Cert.KernelIdeal.Gen Cert.Hand
open scoped BigOperators

variable (m : (ℓ : Loc nD τ sig) → Buf (Elt Ideal) ℓ) (ρ : Dev nD → PrngReg)

/-- The arrays the grid writes. -/
def arrDq (c : Dev nD) : Vec Ideal S4x8x2x96x8192 .bf16 := fun i => ((args m c).head (i 0) (i 1)).dq scale (i 2) (chunkOf (i 4)) (placeOf (i 4)) (i 3)
def arrDk (c : Dev nD) : Vec Ideal S4x8x96x8192 .bf16 := fun i => ((args m c).head (i 0) (i 1)).dk scale (chunkOf (i 3)) (placeOf (i 3)) (i 2)
def arrDv (c : Dev nD) : Vec Ideal S4x8x192x8192 .bf16 := fun i => ((args m c).head (i 0) (i 1)).dv scale (chunkOf (i 3)) (placeOf (i 3)) (i 2)

theorem final8 (c : Dev nD) : (dats m 0 c).arrAt 8 cfg0.N = arrDq m c := by
  refine (dats m 0 c).arrAt_eq_of_covers 8 (arrDq m c) (by decide +kernel) fun t hf y => ?_
  blk_simp
  rw [after0_8, pointHead_eq]
  obtain ⟨g, d, p, rfl⟩ := idx5b_eta y
  have he : (win0_8.blk t).view.emb (ix5 0 0 g d p) = (ix5 (grid0.coords t 0) (grid0.coords t 1) g d p : S4x8x2x96x8192.Idx) := by
    blk_ext [index8 t]
  exact (congrArg (arrDq m c) he).symm

theorem final9 (c : Dev nD) : (dats m 0 c).arrAt 9 cfg0.N = arrDk m c := by
  refine (dats m 0 c).arrAt_eq_of_covers 9 (arrDk m c) (by decide +kernel) fun t hf y => ?_
  blk_simp
  rw [after0_9, pointHead_eq]
  obtain ⟨d, p, rfl⟩ := idx4_eta (n := 96) (m := 8192) y
  have he : (win0_9.blk t).view.emb (ix4 0 0 d p) = (ix4 (grid0.coords t 0) (grid0.coords t 1) d p : S4x8x96x8192.Idx) := by
    blk_ext [index9 t]
  exact (congrArg (arrDk m c) he).symm

theorem final10 (c : Dev nD) : (dats m 0 c).arrAt 10 cfg0.N = arrDv m c := by
  refine (dats m 0 c).arrAt_eq_of_covers 10 (arrDv m c) (by decide +kernel) fun t hf y => ?_
  blk_simp
  rw [after0_10, pointHead_eq]
  obtain ⟨d, p, rfl⟩ := idx4_eta (n := 192) (m := 8192) y
  have he : (win0_10.blk t).view.emb (ix4 0 0 d p) = (ix4 (grid0.coords t 0) (grid0.coords t 1) d p : S4x8x192x8192.Idx) := by
    blk_ext [index10 t]
  exact (congrArg (arrDv m c) he).symm

/-- The contents after the region, as the host lines that follow find them. -/
abbrev V1 (c : Dev nD) : Valuation τ sig (Elt Ideal) :=
  Pipeline.withArrays (cfgs 0).spec c (V0 m c) fun w => (dats m 0 c).arrAt w (cfgs 0).N

theorem V1_dq (c : Dev nD) : V1 m c (Proc.devRef .tc main_v8_0) = arrDq m c :=
  (Pipeline.withArrays_arr spec0 winFacts0.arr_inj c (V0 m c) (fun w => (dats m 0 c).arrAt w cfg0.N) 8).trans (final8 m c)
theorem V1_dk (c : Dev nD) : V1 m c (Proc.devRef .tc main_v8_1) = arrDk m c :=
  (Pipeline.withArrays_arr spec0 winFacts0.arr_inj c (V0 m c) (fun w => (dats m 0 c).arrAt w cfg0.N) 9).trans (final9 m c)
theorem V1_dv (c : Dev nD) : V1 m c (Proc.devRef .tc main_v8_2) = arrDv m c :=
  (Pipeline.withArrays_arr spec0 winFacts0.arr_inj c (V0 m c) (fun w => (dats m 0 c).arrAt w cfg0.N) 10).trans (final10 m c)

/-- The three results. -/
def resDq (c : Dev nD) : Buf (Elt Ideal) ((c.tc : Thread nD τ).loc main_v10) := fun i => (args m c).dq scale (i 0) (i 1) (i 2) (i 3)
def resDk (c : Dev nD) : Buf (Elt Ideal) ((c.tc : Thread nD τ).loc main_v11) := fun i => (args m c).dk scale (i 0) (i 1) (i 2) (i 3)
def resDv (c : Dev nD) : Buf (Elt Ideal) ((c.tc : Thread nD τ).loc main_v12) := fun i => (args m c).dv scale (i 0) (i 1) (i 2) (i 3)

theorem tail_dq (c : Dev nD) : Pipeline.afterTail₀ cfgs (dats m) 0 (V0 m) [hostOps1] c main_v10 = resDq m c := by
  have e : Pipeline.afterTail₀ cfgs (dats m) 0 (V0 m) [hostOps1] c main_v10
      = transpose S4x8192x16x96 [0, 3, 1, 2] (shapeCast S4x16x96x8192 (V1 m c (Proc.devRef .tc main_v8_0)) shapeCasts_S4x8x2x96x8192_S4x16x96x8192) transposes_S4x16x96x8192_S4x8192x16x96_0_3_1_2 := by
    show StableHlo.after hostOps1 (V1 m c) (Proc.devRef .tc main_v10) = _
    after_reads_simp
    rfl
  rw [e, V1_dq]
  funext i
  obtain ⟨b, p, x, d, rfl⟩ : ∃ (b : Fin 4) (p : Fin 8192) (x : Fin 16) (d : Fin 96), i = ix4 b p x d :=
    ⟨i 0, i 1, i 2, i 3, funext fun a => match a with | ⟨0, _⟩ => rfl | ⟨1, _⟩ => rfl | ⟨2, _⟩ => rfl | ⟨3, _⟩ => rfl⟩
  pointwise
  rfl

theorem tail_dk (c : Dev nD) : Pipeline.afterTail₀ cfgs (dats m) 0 (V0 m) [hostOps1] c main_v11 = resDk m c := by
  have e : Pipeline.afterTail₀ cfgs (dats m) 0 (V0 m) [hostOps1] c main_v11
      = transpose S4x8192x8x96 [0, 3, 1, 2] (V1 m c (Proc.devRef .tc main_v8_1)) transposes_S4x8x96x8192_S4x8192x8x96_0_3_1_2 := by
    show StableHlo.after hostOps1 (V1 m c) (Proc.devRef .tc main_v11) = _
    after_reads_simp
  rw [e, V1_dk]
  funext i
  obtain ⟨b, p, x, d, rfl⟩ : ∃ (b : Fin 4) (p : Fin 8192) (x : Fin 8) (d : Fin 96), i = ix4 b p x d :=
    ⟨i 0, i 1, i 2, i 3, funext fun a => match a with | ⟨0, _⟩ => rfl | ⟨1, _⟩ => rfl | ⟨2, _⟩ => rfl | ⟨3, _⟩ => rfl⟩
  pointwise
  rfl

theorem tail_dv (c : Dev nD) : Pipeline.afterTail₀ cfgs (dats m) 0 (V0 m) [hostOps1] c main_v12 = resDv m c := by
  have e : Pipeline.afterTail₀ cfgs (dats m) 0 (V0 m) [hostOps1] c main_v12
      = transpose S4x8192x8x192 [0, 3, 1, 2] (V1 m c (Proc.devRef .tc main_v8_2)) transposes_S4x8x192x8192_S4x8192x8x192_0_3_1_2 := by
    show StableHlo.after hostOps1 (V1 m c) (Proc.devRef .tc main_v12) = _
    after_reads_simp
  rw [e, V1_dv]
  funext i
  obtain ⟨b, p, x, d, rfl⟩ : ∃ (b : Fin 4) (p : Fin 8192) (x : Fin 8) (d : Fin 192), i = ix4 b p x d :=
    ⟨i 0, i 1, i 2, i 3, funext fun a => match a with | ⟨0, _⟩ => rfl | ⟨1, _⟩ => rfl | ⟨2, _⟩ => rfl | ⟨3, _⟩ => rfl⟩
  pointwise
  rfl

/-- The kernel's run ends with the three results at their values. -/
theorem run_values : θ_run defs (onTc (τ := τ) (main (F := Ideal))) ⟨m, fun _ => 0, ρ⟩ fun r => ∀ c : Dev nD,
      r.2.mem ((c.tc : Thread nD τ).loc main_v10) = resDq m c
      ∧ r.2.mem ((c.tc : Thread nD τ).loc main_v11) = resDk m c
      ∧ r.2.mem ((c.tc : Thread nD τ).loc main_v12) = resDv m c :=
  (θ_run defs _ _).mono (fun r h c =>
    ⟨((h c).2 main_v10 (by decide)).trans (tail_dq m c), ((h c).2 main_v11 (by decide)).trans (tail_dk m c),
      ((h c).2 main_v12 (by decide)).trans (tail_dv m c)⟩) (run_main m ρ)

end Cert.KernelIdeal.Hand
end
-- ==== Proof.RefRegion.lean ====
module

public import proofs.«01_k».proof.Proof.Gen.ReferenceIdeal.Frame
public import proofs.«01_k».proof.Proof.Result
public import Idealize.ShloMosaic.Lib.StableHlo.RunRead

/-! The reference's first step keeps the four narrow arrays' numbers: widened, they are the argument arrays. -/

@[expose] public section

set_option maxRecDepth 8192

noncomputable section

namespace Cert.ReferenceIdeal.Hand

open Idealize.ShloMosaic Idealize.ShloMosaic.TcCoe Idealize.ShloMosaic.Tactic
open Idealize.SL.Sem
open Cert.ReferenceIdeal.Gen Cert.Hand
open scoped BigOperators

variable (m : (ℓ : Loc nD τ sig) → Buf (Elt Ideal) ℓ)

theorem index0 : ∀ t : Fin cfg0.N, win0_0.index t = ![0, 0, 0, 0] := (by decide +kernel : ∀ t : Fin grid0.N, _)
theorem index1 : ∀ t : Fin cfg0.N, win0_1.index t = ![0, 0, 0, 0] := (by decide +kernel : ∀ t : Fin grid0.N, _)
theorem index2 : ∀ t : Fin cfg0.N, win0_2.index t = ![0, 0, 0, 0] := (by decide +kernel : ∀ t : Fin grid0.N, _)
theorem index3 : ∀ t : Fin cfg0.N, win0_3.index t = ![0, 0, 0, 0] := (by decide +kernel : ∀ t : Fin grid0.N, _)
theorem index4 : ∀ t : Fin cfg0.N, win0_4.index t = ![0, 0, 0, 0] := (by decide +kernel : ∀ t : Fin grid0.N, _)
theorem index5 : ∀ t : Fin cfg0.N, win0_5.index t = ![0, 0, 0, 0] := (by decide +kernel : ∀ t : Fin grid0.N, _)
theorem index6 : ∀ t : Fin cfg0.N, win0_6.index t = ![0, 0, 0, 0] := (by decide +kernel : ∀ t : Fin grid0.N, _)
theorem index7 : ∀ t : Fin cfg0.N, win0_7.index t = ![0, 0, 0, 0] := (by decide +kernel : ∀ t : Fin grid0.N, _)

/-! What the body leaves in each output window is what the matching input window holds. -/

theorem zero4 : (![0, 0, 0, 0] : Fin 4 → ℕ) = fun _ => 0 := by decide

theorem out4 (x0 : Vec Ideal S4x8192x16x96 .fp8e4m3) (x1 : Vec Ideal S4x8192x8x96 .fp8e4m3) (x2 : Vec Ideal S4x8192x8x192 .fp8e4m3) (x3 : Vec Ideal S4x8192x16x192 .fp8e5m2) :
    out0_4 x0 x1 x2 x3 = x0 := by
  unfold out0_4
  rw [View.ld_unit_zero zero4]
  exact View.canon_unit_zero zero4 _ _
theorem out5 (x0 : Vec Ideal S4x8192x16x96 .fp8e4m3) (x1 : Vec Ideal S4x8192x8x96 .fp8e4m3) (x2 : Vec Ideal S4x8192x8x192 .fp8e4m3) (x3 : Vec Ideal S4x8192x16x192 .fp8e5m2) :
    out0_5 x0 x1 x2 x3 = x1 := by
  unfold out0_5
  rw [View.ld_unit_zero zero4]
  exact View.canon_unit_zero zero4 _ _
theorem out6 (x0 : Vec Ideal S4x8192x16x96 .fp8e4m3) (x1 : Vec Ideal S4x8192x8x96 .fp8e4m3) (x2 : Vec Ideal S4x8192x8x192 .fp8e4m3) (x3 : Vec Ideal S4x8192x16x192 .fp8e5m2) :
    out0_6 x0 x1 x2 x3 = x2 := by
  unfold out0_6
  rw [View.ld_unit_zero zero4]
  exact View.canon_unit_zero zero4 _ _
theorem out7 (x0 : Vec Ideal S4x8192x16x96 .fp8e4m3) (x1 : Vec Ideal S4x8192x8x96 .fp8e4m3) (x2 : Vec Ideal S4x8192x8x192 .fp8e4m3) (x3 : Vec Ideal S4x8192x16x192 .fp8e5m2) :
    out0_7 x0 x1 x2 x3 = x3 := by
  unfold out0_7
  rw [View.ld_unit_zero zero4]
  exact View.canon_unit_zero zero4 _ _

/-- The four arrays the region writes. -/
def arrQ (c : Dev nD) : Vec Ideal S4x8192x16x96 .bf16 := m ((c.tc : Thread nD τ).loc main_arg0)
def arrK (c : Dev nD) : Vec Ideal S4x8192x8x96 .bf16 := m ((c.tc : Thread nD τ).loc main_arg1)
def arrV (c : Dev nD) : Vec Ideal S4x8192x8x192 .bf16 := m ((c.tc : Thread nD τ).loc main_arg2)
def arrDo (c : Dev nD) : Vec Ideal S4x8192x16x192 .bf16 := m ((c.tc : Thread nD τ).loc main_arg6)

theorem final4 (c : Dev nD) : (dats m 0 c).arrAt 4 cfg0.N = arrQ m c := by
  refine (dats m 0 c).arrAt_eq_of_covers 4 (arrQ m c) (by decide +kernel) fun t hf y => ?_
  blk_simp
  rw [after0_4, out4]
  blk_simp [iblk]
  have he : (win0_0.blk t).view.emb y = (win0_4.blk t).view.emb y := by
    blk_ext [index0 t, index4 t]
  exact congrArg (arrQ m c) he

theorem final5 (c : Dev nD) : (dats m 0 c).arrAt 5 cfg0.N = arrK m c := by
  refine (dats m 0 c).arrAt_eq_of_covers 5 (arrK m c) (by decide +kernel) fun t hf y => ?_
  blk_simp
  rw [after0_5, out5]
  blk_simp [iblk]
  have he : (win0_1.blk t).view.emb y = (win0_5.blk t).view.emb y := by
    blk_ext [index1 t, index5 t]
  exact congrArg (arrK m c) he

theorem final6 (c : Dev nD) : (dats m 0 c).arrAt 6 cfg0.N = arrV m c := by
  refine (dats m 0 c).arrAt_eq_of_covers 6 (arrV m c) (by decide +kernel) fun t hf y => ?_
  blk_simp
  rw [after0_6, out6]
  blk_simp [iblk]
  have he : (win0_2.blk t).view.emb y = (win0_6.blk t).view.emb y := by
    blk_ext [index2 t, index6 t]
  exact congrArg (arrV m c) he

theorem final7 (c : Dev nD) : (dats m 0 c).arrAt 7 cfg0.N = arrDo m c := by
  refine (dats m 0 c).arrAt_eq_of_covers 7 (arrDo m c) (by decide +kernel) fun t hf y => ?_
  blk_simp
  rw [after0_7, out7]
  blk_simp [iblk]
  have he : (win0_3.blk t).view.emb y = (win0_7.blk t).view.emb y := by
    blk_ext [index3 t, index7 t]
  exact congrArg (arrDo m c) he

/-- The contents after the region, as the host lines that follow find them. -/
abbrev V1 (c : Dev nD) : Valuation τ sig (Elt Ideal) :=
  Pipeline.withArrays (cfgs 0).spec c (V0 m c) fun w => (dats m 0 c).arrAt w (cfgs 0).N

theorem V1_q (c : Dev nD) : V1 m c (Proc.devRef .tc main_v0_0) = arrQ m c :=
  (Pipeline.withArrays_arr spec0 winFacts0.arr_inj c (V0 m c) (fun w => (dats m 0 c).arrAt w cfg0.N) 4).trans (final4 m c)
theorem V1_k (c : Dev nD) : V1 m c (Proc.devRef .tc main_v0_1) = arrK m c :=
  (Pipeline.withArrays_arr spec0 winFacts0.arr_inj c (V0 m c) (fun w => (dats m 0 c).arrAt w cfg0.N) 5).trans (final5 m c)
theorem V1_v (c : Dev nD) : V1 m c (Proc.devRef .tc main_v0_2) = arrV m c :=
  (Pipeline.withArrays_arr spec0 winFacts0.arr_inj c (V0 m c) (fun w => (dats m 0 c).arrAt w cfg0.N) 6).trans (final6 m c)
theorem V1_do (c : Dev nD) : V1 m c (Proc.devRef .tc main_v0_3) = arrDo m c :=
  (Pipeline.withArrays_arr spec0 winFacts0.arr_inj c (V0 m c) (fun w => (dats m 0 c).arrAt w cfg0.N) 7).trans (final7 m c)
theorem V1_qs (c : Dev nD) : V1 m c (Proc.devRef .tc main_arg3) = m ((c.tc : Thread nD τ).loc main_arg3) :=
  (Pipeline.withArrays_of_ne spec0 c (V0 m c) (fun w => (dats m 0 c).arrAt w cfg0.N) main_arg3 (by decide)).trans (V_main_arg3 m c)
theorem V1_ks (c : Dev nD) : V1 m c (Proc.devRef .tc main_arg4) = m ((c.tc : Thread nD τ).loc main_arg4) :=
  (Pipeline.withArrays_of_ne spec0 c (V0 m c) (fun w => (dats m 0 c).arrAt w cfg0.N) main_arg4 (by decide)).trans (V_main_arg4 m c)
theorem V1_vs (c : Dev nD) : V1 m c (Proc.devRef .tc main_arg5) = m ((c.tc : Thread nD τ).loc main_arg5) :=
  (Pipeline.withArrays_of_ne spec0 c (V0 m c) (fun w => (dats m 0 c).arrAt w cfg0.N) main_arg5 (by decide)).trans (V_main_arg5 m c)
theorem V1_dos (c : Dev nD) : V1 m c (Proc.devRef .tc main_arg7) = m ((c.tc : Thread nD τ).loc main_arg7) :=
  (Pipeline.withArrays_of_ne spec0 c (V0 m c) (fun w => (dats m 0 c).arrAt w cfg0.N) main_arg7 (by decide)).trans (V_main_arg7 m c)

end Cert.ReferenceIdeal.Hand
end
-- ==== Proof.RefLines.lean ====
module

public import proofs.«01_k».proof.Proof.Gen.ReferenceIdeal.Launch
public import proofs.«01_k».proof.Proof.Result
public import Idealize.ShloMosaic.Lib.Tactic

/-! The arrays the reference computes after its first step, one definition for each of its lines, from the argument arrays. -/

@[expose] public section

set_option maxRecDepth 8192

noncomputable section

namespace Cert.ReferenceIdeal.Hand

open Idealize.ShloMosaic Idealize.ShloMosaic.TcCoe Idealize.ShloMosaic.Tactic
open Cert.ReferenceIdeal.Gen Cert.Hand
open scoped BigOperators

def v1 (A : Args) : FVec Ideal S4x64x128x8x2x96 .bf16 := shapeCast S4x64x128x8x2x96 (A.q : FVec Ideal S4x8192x16x96 .bf16) shapeCasts_S4x8192x16x96_S4x64x128x8x2x96
def v2 (A : Args) : FVec Ideal S4x64x128x8x96 .bf16 := shapeCast S4x64x128x8x96 (A.k : FVec Ideal S4x8192x8x96 .bf16) shapeCasts_S4x8192x8x96_S4x64x128x8x96
def v3 (A : Args) : FVec Ideal S4x64x128x8x192 .bf16 := shapeCast S4x64x128x8x192 (A.v : FVec Ideal S4x8192x8x192 .bf16) shapeCasts_S4x8192x8x192_S4x64x128x8x192
def v4 (A : Args) : FVec Ideal S4x64x128x8x2x192 .bf16 := shapeCast S4x64x128x8x2x192 (A.dO : FVec Ideal S4x8192x16x192 .bf16) shapeCasts_S4x8192x16x192_S4x64x128x8x2x192
def v5 (A : Args) : FVec Ideal S4x64x8x2 .f32 := shapeCast S4x64x8x2 (A.qs : FVec Ideal S4x64x16 .f32) shapeCasts_S4x64x16_S4x64x8x2
def v6 (A : Args) : FVec Ideal S4x64x128x8x2 .f32 := shapeCast S4x64x128x8x2 (A.dos : FVec Ideal S4x8192x16 .f32) shapeCasts_S4x8192x16_S4x64x128x8x2
def v7 (A : Args) : FVec Ideal S4x64x1x8x2x1 .f32 := (broadcastInDim S4x64x1x8x2x1 ![0, 1, 3, 4] bcast_S4x64x8x2_S4x64x1x8x2x1_0_1_3_4 : FVec Ideal S4x64x8x2 .f32 → FVec Ideal S4x64x1x8x2x1 .f32) (v5 A)
def v8 (A : Args) : FVec Ideal S4x64x1x8x2x1 .bf16 := ((truncf .bf16 · bitsLt_bf16_f32) : FVec Ideal S4x64x1x8x2x1 .f32 → FVec Ideal S4x64x1x8x2x1 .bf16) (v7 A)
def v9 (A : Args) : FVec Ideal S4x64x128x8x2x96 .bf16 := (broadcastInDim S4x64x128x8x2x96 ![0, 1, 2, 3, 4, 5] bcast_S4x64x1x8x2x1_S4x64x128x8x2x96_0_1_2_3_4_5 : FVec Ideal S4x64x1x8x2x1 .bf16 → FVec Ideal S4x64x128x8x2x96 .bf16) (v8 A)
def v10 (A : Args) : FVec Ideal S4x64x128x8x2x96 .bf16 := (mulf : FVec Ideal S4x64x128x8x2x96 .bf16 → FVec Ideal S4x64x128x8x2x96 .bf16 → FVec Ideal S4x64x128x8x2x96 .bf16) (v1 A) (v9 A)
def v11 (A : Args) : FVec Ideal S4x64x1x8x1 .f32 := (broadcastInDim S4x64x1x8x1 ![0, 1, 3] bcast_S4x64x8_S4x64x1x8x1_0_1_3 : FVec Ideal S4x64x8 .f32 → FVec Ideal S4x64x1x8x1 .f32) (A.ks : FVec Ideal S4x64x8 .f32)
def v12 (A : Args) : FVec Ideal S4x64x1x8x1 .bf16 := ((truncf .bf16 · bitsLt_bf16_f32) : FVec Ideal S4x64x1x8x1 .f32 → FVec Ideal S4x64x1x8x1 .bf16) (v11 A)
def v13 (A : Args) : FVec Ideal S4x64x128x8x96 .bf16 := (broadcastInDim S4x64x128x8x96 ![0, 1, 2, 3, 4] bcast_S4x64x1x8x1_S4x64x128x8x96_0_1_2_3_4 : FVec Ideal S4x64x1x8x1 .bf16 → FVec Ideal S4x64x128x8x96 .bf16) (v12 A)
def v14 (A : Args) : FVec Ideal S4x64x128x8x96 .bf16 := (mulf : FVec Ideal S4x64x128x8x96 .bf16 → FVec Ideal S4x64x128x8x96 .bf16 → FVec Ideal S4x64x128x8x96 .bf16) (v2 A) (v13 A)
def v15 (A : Args) : FVec Ideal S4x64x1x8x1 .f32 := (broadcastInDim S4x64x1x8x1 ![0, 1, 3] bcast_S4x64x8_S4x64x1x8x1_0_1_3 : FVec Ideal S4x64x8 .f32 → FVec Ideal S4x64x1x8x1 .f32) (A.vs : FVec Ideal S4x64x8 .f32)
def v16 (A : Args) : FVec Ideal S4x64x1x8x1 .bf16 := ((truncf .bf16 · bitsLt_bf16_f32) : FVec Ideal S4x64x1x8x1 .f32 → FVec Ideal S4x64x1x8x1 .bf16) (v15 A)
def v17 (A : Args) : FVec Ideal S4x64x128x8x192 .bf16 := (broadcastInDim S4x64x128x8x192 ![0, 1, 2, 3, 4] bcast_S4x64x1x8x1_S4x64x128x8x192_0_1_2_3_4 : FVec Ideal S4x64x1x8x1 .bf16 → FVec Ideal S4x64x128x8x192 .bf16) (v16 A)
def v18 (A : Args) : FVec Ideal S4x64x128x8x192 .bf16 := (mulf : FVec Ideal S4x64x128x8x192 .bf16 → FVec Ideal S4x64x128x8x192 .bf16 → FVec Ideal S4x64x128x8x192 .bf16) (v3 A) (v17 A)
def v19 (A : Args) : FVec Ideal S4x64x128x8x2x1 .f32 := (broadcastInDim S4x64x128x8x2x1 ![0, 1, 2, 3, 4] bcast_S4x64x128x8x2_S4x64x128x8x2x1_0_1_2_3_4 : FVec Ideal S4x64x128x8x2 .f32 → FVec Ideal S4x64x128x8x2x1 .f32) (v6 A)
def v20 (A : Args) : FVec Ideal S4x64x128x8x2x1 .bf16 := ((truncf .bf16 · bitsLt_bf16_f32) : FVec Ideal S4x64x128x8x2x1 .f32 → FVec Ideal S4x64x128x8x2x1 .bf16) (v19 A)
def v21 (A : Args) : FVec Ideal S4x64x128x8x2x192 .bf16 := (broadcastInDim S4x64x128x8x2x192 ![0, 1, 2, 3, 4, 5] bcast_S4x64x128x8x2x1_S4x64x128x8x2x192_0_1_2_3_4_5 : FVec Ideal S4x64x128x8x2x1 .bf16 → FVec Ideal S4x64x128x8x2x192 .bf16) (v20 A)
def v22 (A : Args) : FVec Ideal S4x64x128x8x2x192 .bf16 := (mulf : FVec Ideal S4x64x128x8x2x192 .bf16 → FVec Ideal S4x64x128x8x2x192 .bf16 → FVec Ideal S4x64x128x8x2x192 .bf16) (v4 A) (v21 A)
def v23 (A : Args) : FVec Ideal S4x64x8x96x192 .f32 := ((fun l r => Host.dotGeneral dot_S4x64x128x8x96_S4x64x128x8x192_S4x64x8x96x192_2_2_4_4_013_013 none l r) : FVec Ideal S4x64x128x8x96 .bf16 → FVec Ideal S4x64x128x8x192 .bf16 → FVec Ideal S4x64x8x96x192 .f32) (v2 A) (v3 A)
def v24 (A : Args) : FVec Ideal S4x64x8 .f32 := (mulf : FVec Ideal S4x64x8 .f32 → FVec Ideal S4x64x8 .f32 → FVec Ideal S4x64x8 .f32) (A.ks : FVec Ideal S4x64x8 .f32) (A.vs : FVec Ideal S4x64x8 .f32)
def v25 (A : Args) : FVec Ideal S4x64x8x1x1 .f32 := (broadcastInDim S4x64x8x1x1 ![0, 1, 2] bcast_S4x64x8_S4x64x8x1x1_0_1_2 : FVec Ideal S4x64x8 .f32 → FVec Ideal S4x64x8x1x1 .f32) (v24 A)
def v26 (A : Args) : FVec Ideal S4x64x8x96x192 .f32 := (broadcastInDim S4x64x8x96x192 ![0, 1, 2, 3, 4] bcast_S4x64x8x1x1_S4x64x8x96x192_0_1_2_3_4 : FVec Ideal S4x64x8x1x1 .f32 → FVec Ideal S4x64x8x96x192 .f32) (v25 A)
def v27 (A : Args) : FVec Ideal S4x64x8x96x192 .f32 := (mulf : FVec Ideal S4x64x8x96x192 .f32 → FVec Ideal S4x64x8x96x192 .f32 → FVec Ideal S4x64x8x96x192 .f32) (v23 A) (v26 A)
def v28 (A : Args) : FVec Ideal S4x64x8x96x192 .f32 := ((fun l r => Host.dotGeneral dot_S4x64x128x8x2x96_S4x64x128x8x2x192_S4x64x8x96x192_42_42_5_5_013_013 none l r) : FVec Ideal S4x64x128x8x2x96 .bf16 → FVec Ideal S4x64x128x8x2x192 .bf16 → FVec Ideal S4x64x8x96x192 .f32) (v10 A) (v22 A)
def call0_call0_cst (A : Args) : FVec Ideal S_ .f32 := (constant S_ .f32 0x00000000#32)
def call0_call0_v0 (A : Args) : FVec Ideal S_ .f32 := ((broadcastInDim S_ ![] bcast_S_S_) : FVec Ideal S_ .f32 → FVec Ideal S_ .f32) (call0_call0_cst A)
def v29 (A : Args) : FVec Ideal S4x64x8x96x192 .f32 := ((fun x v => Host.reduceWindowAdd ![1, 64, 1, 1, 1] ![1, 1, 1, 1, 1] ![0, 63, 0, 0, 0] ![0, 0, 0, 0, 0] x v reduceWindows_S4x64x8x96x192_S4x64x8x96x192_w1s1p0_0_w64s1p63_0_w1s1p0_0_w1s1p0_0_w1s1p0_0 h_S_) : FVec Ideal S4x64x8x96x192 .f32 → FVec Ideal S_ .f32 → FVec Ideal S4x64x8x96x192 .f32) (v27 A) (call0_call0_v0 A)
def v30 (A : Args) : FVec Ideal S4x63x8x96x192 .f32 := ((extractStridedSlice S4x63x8x96x192 ![0, 0, 0, 0, 0] · slices_S4x64x8x96x192_S4x63x8x96x192_0_0_0_0_0) : FVec Ideal S4x64x8x96x192 .f32 → FVec Ideal S4x63x8x96x192 .f32) (v29 A)
def c (A : Args) : IVec S_ 32 := constantI S_ 32 0#32
def call1_v0 (A : Args) : FVec Ideal S_ .f32 := ((sitofp .f32) : IVec S_ 32 → FVec Ideal S_ .f32) (c A)
def v31 (A : Args) : FVec Ideal S4x64x8x96x192 .f32 := ((fun x v => pad S4x64x8x96x192 ![0, 1, 0, 0, 0] ![0, 0, 0, 0, 0] ![0, 0, 0, 0, 0] x v pads_S4x63x8x96x192_S4x64x8x96x192_000_100_000_000_000 h_S_) : FVec Ideal S4x63x8x96x192 .f32 → FVec Ideal S_ .f32 → FVec Ideal S4x64x8x96x192 .f32) (v30 A) (call1_v0 A)
def call2_cst (A : Args) : FVec Ideal S_ .f32 := (constant S_ .f32 0x00000000#32)
def call2_v0 (A : Args) : FVec Ideal S_ .f32 := ((broadcastInDim S_ ![] bcast_S_S_) : FVec Ideal S_ .f32 → FVec Ideal S_ .f32) (call2_cst A)
def v32 (A : Args) : FVec Ideal S4x64x8x96x192 .f32 := ((fun x v => Host.reduceWindowAdd ![1, 64, 1, 1, 1] ![1, 1, 1, 1, 1] ![0, 0, 0, 0, 0] ![0, 63, 0, 0, 0] x v reduceWindows_S4x64x8x96x192_S4x64x8x96x192_w1s1p0_0_w64s1p0_63_w1s1p0_0_w1s1p0_0_w1s1p0_0 h_S_) : FVec Ideal S4x64x8x96x192 .f32 → FVec Ideal S_ .f32 → FVec Ideal S4x64x8x96x192 .f32) (v28 A) (call2_v0 A)
def v33 (A : Args) : FVec Ideal S4x63x8x96x192 .f32 := ((extractStridedSlice S4x63x8x96x192 ![0, 1, 0, 0, 0] · slices_S4x64x8x96x192_S4x63x8x96x192_0_1_0_0_0) : FVec Ideal S4x64x8x96x192 .f32 → FVec Ideal S4x63x8x96x192 .f32) (v32 A)
def c_0 (A : Args) : IVec S_ 32 := constantI S_ 32 0#32
def call3_v0 (A : Args) : FVec Ideal S_ .f32 := ((sitofp .f32) : IVec S_ 32 → FVec Ideal S_ .f32) (c_0 A)
def v34 (A : Args) : FVec Ideal S4x64x8x96x192 .f32 := ((fun x v => pad S4x64x8x96x192 ![0, 0, 0, 0, 0] ![0, 1, 0, 0, 0] ![0, 0, 0, 0, 0] x v pads_S4x63x8x96x192_S4x64x8x96x192_000_010_000_000_000 h_S_) : FVec Ideal S4x63x8x96x192 .f32 → FVec Ideal S_ .f32 → FVec Ideal S4x64x8x96x192 .f32) (v33 A) (call3_v0 A)
def v35 (A : Args) : FVec Ideal S4x64x8x96x192 .bf16 := ((truncf .bf16 · bitsLt_bf16_f32) : FVec Ideal S4x64x8x96x192 .f32 → FVec Ideal S4x64x8x96x192 .bf16) (v31 A)
def v36 (A : Args) : FVec Ideal S4x64x8x96x192 .bf16 := ((truncf .bf16 · bitsLt_bf16_f32) : FVec Ideal S4x64x8x96x192 .f32 → FVec Ideal S4x64x8x96x192 .bf16) (v34 A)
def c_1 (A : Args) : IVec S_ 1 := constantI S_ 1 1#1
def v37 (A : Args) : IVec S128x128 1 := (broadcastInDim S128x128 ![] bcast_S_S128x128 : IVec S_ 1 → IVec S128x128 1) (c_1 A)
def call4_v0 (A : Args) : IVec S128x128 32 := (iotaInDim S128x128 32 0)
def call4_c (A : Args) : IVec S_ 32 := (constantI S_ 32 0#32)
def call4_v1 (A : Args) : IVec S128x128 32 := ((broadcastInDim S128x128 ![] bcast_S_S128x128) : IVec S_ 32 → IVec S128x128 32) (call4_c A)
def call4_v2 (A : Args) : IVec S128x128 32 := (addi : IVec S128x128 32 → IVec S128x128 32 → IVec S128x128 32) (call4_v0 A) (call4_v1 A)
def call4_v3 (A : Args) : IVec S128x128 32 := (iotaInDim S128x128 32 1)
def call4_v4 (A : Args) : IVec S128x128 1 := ((cmpi .sge) : IVec S128x128 32 → IVec S128x128 32 → IVec S128x128 1) (call4_v2 A) (call4_v3 A)
def call4_c_0 (A : Args) : IVec S_ 1 := (constantI S_ 1 0#1)
def call4_v5 (A : Args) : IVec S128x128 1 := ((broadcastInDim S128x128 ![] bcast_S_S128x128) : IVec S_ 1 → IVec S128x128 1) (call4_c_0 A)
def v38 (A : Args) : IVec S128x128 1 := (select : IVec S128x128 1 → IVec S128x128 1 → IVec S128x128 1 → IVec S128x128 1) (call4_v4 A) (v37 A) (call4_v5 A)
def v39 (A : Args) : FVec Ideal S4x64x8x128x128x2 .f32 := ((fun l r => Host.dotGeneral dot_S4x64x128x8x192_S4x64x128x8x2x192_S4x64x8x128x128x2_4_5_2_24_013_013 none l r) : FVec Ideal S4x64x128x8x192 .bf16 → FVec Ideal S4x64x128x8x2x192 .bf16 → FVec Ideal S4x64x8x128x128x2 .f32) (v3 A) (v4 A)
def v40 (A : Args) : FVec Ideal S4x64x8x2x128x128 .f32 := ((transpose S4x64x8x2x128x128 [0, 1, 2, 5, 4, 3] · transposes_S4x64x8x128x128x2_S4x64x8x2x128x128_0_1_2_5_4_3) : FVec Ideal S4x64x8x128x128x2 .f32 → FVec Ideal S4x64x8x2x128x128 .f32) (v39 A)
def v41 (A : Args) : FVec Ideal S4x64x8x2x128 .f32 := ((transpose S4x64x8x2x128 [0, 1, 3, 4, 2] · transposes_S4x64x128x8x2_S4x64x8x2x128_0_1_3_4_2) : FVec Ideal S4x64x128x8x2 .f32 → FVec Ideal S4x64x8x2x128 .f32) (v6 A)
def v42 (A : Args) : FVec Ideal S4x64x8x2x128x1 .f32 := (broadcastInDim S4x64x8x2x128x1 ![0, 1, 2, 3, 4] bcast_S4x64x8x2x128_S4x64x8x2x128x1_0_1_2_3_4 : FVec Ideal S4x64x8x2x128 .f32 → FVec Ideal S4x64x8x2x128x1 .f32) (v41 A)
def v43 (A : Args) : FVec Ideal S4x64x8x2x128x128 .f32 := (broadcastInDim S4x64x8x2x128x128 ![0, 1, 2, 3, 4, 5] bcast_S4x64x8x2x128x1_S4x64x8x2x128x128_0_1_2_3_4_5 : FVec Ideal S4x64x8x2x128x1 .f32 → FVec Ideal S4x64x8x2x128x128 .f32) (v42 A)
def v44 (A : Args) : FVec Ideal S4x64x8x2x128x128 .f32 := (mulf : FVec Ideal S4x64x8x2x128x128 .f32 → FVec Ideal S4x64x8x2x128x128 .f32 → FVec Ideal S4x64x8x2x128x128 .f32) (v40 A) (v43 A)
def v45 (A : Args) : FVec Ideal S4x64x8x1x1x1 .f32 := (broadcastInDim S4x64x8x1x1x1 ![0, 1, 2] bcast_S4x64x8_S4x64x8x1x1x1_0_1_2 : FVec Ideal S4x64x8 .f32 → FVec Ideal S4x64x8x1x1x1 .f32) (A.vs : FVec Ideal S4x64x8 .f32)
def v46 (A : Args) : FVec Ideal S4x64x8x2x128x128 .f32 := (broadcastInDim S4x64x8x2x128x128 ![0, 1, 2, 3, 4, 5] bcast_S4x64x8x1x1x1_S4x64x8x2x128x128_0_1_2_3_4_5 : FVec Ideal S4x64x8x1x1x1 .f32 → FVec Ideal S4x64x8x2x128x128 .f32) (v45 A)
def v47 (A : Args) : FVec Ideal S4x64x8x2x128x128 .f32 := (mulf : FVec Ideal S4x64x8x2x128x128 .f32 → FVec Ideal S4x64x8x2x128x128 .f32 → FVec Ideal S4x64x8x2x128x128 .f32) (v44 A) (v46 A)
def cst (A : Args) : FVec Ideal S_ .f32 := constant S_ .f32 0x00000000#32
def call5_v0 (A : Args) : FVec Ideal S_ .f32 := (id : FVec Ideal S_ .f32 → FVec Ideal S_ .f32) (cst A)
def call5_v1 (A : Args) : IVec S4x64x8x2x128x128 1 := ((broadcastInDim S4x64x8x2x128x128 ![4, 5] bcast_S128x128_S4x64x8x2x128x128_4_5) : IVec S128x128 1 → IVec S4x64x8x2x128x128 1) (v38 A)
def call5_v2 (A : Args) : FVec Ideal S4x64x8x2x128x128 .f32 := ((broadcastInDim S4x64x8x2x128x128 ![] bcast_S_S4x64x8x2x128x128) : FVec Ideal S_ .f32 → FVec Ideal S4x64x8x2x128x128 .f32) (call5_v0 A)
def v48 (A : Args) : FVec Ideal S4x64x8x2x128x128 .f32 := (select : IVec S4x64x8x2x128x128 1 → FVec Ideal S4x64x8x2x128x128 .f32 → FVec Ideal S4x64x8x2x128x128 .f32 → FVec Ideal S4x64x8x2x128x128 .f32) (call5_v1 A) (v47 A) (call5_v2 A)
def v49 (A : Args) : FVec Ideal S4x64x8x2x128x128 .bf16 := ((truncf .bf16 · bitsLt_bf16_f32) : FVec Ideal S4x64x8x2x128x128 .f32 → FVec Ideal S4x64x8x2x128x128 .bf16) (v48 A)
def v50 (A : Args) : FVec Ideal S4x64x8x128x128x2 .f32 := ((fun l r => Host.dotGeneral dot_S4x64x128x8x96_S4x64x128x8x2x96_S4x64x8x128x128x2_4_5_2_24_013_013 none l r) : FVec Ideal S4x64x128x8x96 .bf16 → FVec Ideal S4x64x128x8x2x96 .bf16 → FVec Ideal S4x64x8x128x128x2 .f32) (v2 A) (v1 A)
def v51 (A : Args) : FVec Ideal S4x64x8x2x128x128 .f32 := ((transpose S4x64x8x2x128x128 [0, 1, 2, 5, 4, 3] · transposes_S4x64x8x128x128x2_S4x64x8x2x128x128_0_1_2_5_4_3) : FVec Ideal S4x64x8x128x128x2 .f32 → FVec Ideal S4x64x8x2x128x128 .f32) (v50 A)
def v52 (A : Args) : FVec Ideal S4x64x8x2x1x1 .f32 := (broadcastInDim S4x64x8x2x1x1 ![0, 1, 2, 3] bcast_S4x64x8x2_S4x64x8x2x1x1_0_1_2_3 : FVec Ideal S4x64x8x2 .f32 → FVec Ideal S4x64x8x2x1x1 .f32) (v5 A)
def v53 (A : Args) : FVec Ideal S4x64x8x1x1x1 .f32 := (broadcastInDim S4x64x8x1x1x1 ![0, 1, 2] bcast_S4x64x8_S4x64x8x1x1x1_0_1_2 : FVec Ideal S4x64x8 .f32 → FVec Ideal S4x64x8x1x1x1 .f32) (A.ks : FVec Ideal S4x64x8 .f32)
def v54 (A : Args) : FVec Ideal S4x64x8x2x1x1 .f32 := (broadcastInDim S4x64x8x2x1x1 ![0, 1, 2, 3, 4, 5] bcast_S4x64x8x1x1x1_S4x64x8x2x1x1_0_1_2_3_4_5 : FVec Ideal S4x64x8x1x1x1 .f32 → FVec Ideal S4x64x8x2x1x1 .f32) (v53 A)
def v55 (A : Args) : FVec Ideal S4x64x8x2x1x1 .f32 := (mulf : FVec Ideal S4x64x8x2x1x1 .f32 → FVec Ideal S4x64x8x2x1x1 .f32 → FVec Ideal S4x64x8x2x1x1 .f32) (v52 A) (v54 A)
def v56 (A : Args) : FVec Ideal S4x64x8x2x128x128 .f32 := (broadcastInDim S4x64x8x2x128x128 ![0, 1, 2, 3, 4, 5] bcast_S4x64x8x2x1x1_S4x64x8x2x128x128_0_1_2_3_4_5 : FVec Ideal S4x64x8x2x1x1 .f32 → FVec Ideal S4x64x8x2x128x128 .f32) (v55 A)
def v57 (A : Args) : FVec Ideal S4x64x8x2x128x128 .f32 := (mulf : FVec Ideal S4x64x8x2x128x128 .f32 → FVec Ideal S4x64x8x2x128x128 .f32 → FVec Ideal S4x64x8x2x128x128 .f32) (v51 A) (v56 A)
def cst_2 (A : Args) : FVec Ideal S_ .f32 := constant S_ .f32 0x00000000#32
def call6_v0 (A : Args) : FVec Ideal S_ .f32 := (id : FVec Ideal S_ .f32 → FVec Ideal S_ .f32) (cst_2 A)
def call6_v1 (A : Args) : IVec S4x64x8x2x128x128 1 := ((broadcastInDim S4x64x8x2x128x128 ![4, 5] bcast_S128x128_S4x64x8x2x128x128_4_5) : IVec S128x128 1 → IVec S4x64x8x2x128x128 1) (v38 A)
def call6_v2 (A : Args) : FVec Ideal S4x64x8x2x128x128 .f32 := ((broadcastInDim S4x64x8x2x128x128 ![] bcast_S_S4x64x8x2x128x128) : FVec Ideal S_ .f32 → FVec Ideal S4x64x8x2x128x128 .f32) (call6_v0 A)
def v58 (A : Args) : FVec Ideal S4x64x8x2x128x128 .f32 := (select : IVec S4x64x8x2x128x128 1 → FVec Ideal S4x64x8x2x128x128 .f32 → FVec Ideal S4x64x8x2x128x128 .f32 → FVec Ideal S4x64x8x2x128x128 .f32) (call6_v1 A) (v57 A) (call6_v2 A)
def v59 (A : Args) : FVec Ideal S4x64x8x2x128x128 .bf16 := ((truncf .bf16 · bitsLt_bf16_f32) : FVec Ideal S4x64x8x2x128x128 .f32 → FVec Ideal S4x64x8x2x128x128 .bf16) (v58 A)
def v60 (A : Args) : FVec Ideal S4x64x8x96x128x2 .f32 := ((fun l r => Host.dotGeneral dot_S4x64x8x96x192_S4x64x128x8x2x192_S4x64x8x96x128x2_4_5_3_24_012_013 none l r) : FVec Ideal S4x64x8x96x192 .bf16 → FVec Ideal S4x64x128x8x2x192 .bf16 → FVec Ideal S4x64x8x96x128x2 .f32) (v35 A) (v22 A)
def v61 (A : Args) : FVec Ideal S4x64x128x8x2x96 .f32 := ((transpose S4x64x128x8x2x96 [0, 1, 4, 2, 5, 3] · transposes_S4x64x8x96x128x2_S4x64x128x8x2x96_0_1_4_2_5_3) : FVec Ideal S4x64x8x96x128x2 .f32 → FVec Ideal S4x64x128x8x2x96 .f32) (v60 A)
def v62 (A : Args) : FVec Ideal S4x64x8x96x2x128 .f32 := ((fun l r => Host.dotGeneral dot_S4x64x128x8x96_S4x64x8x2x128x128_S4x64x8x96x2x128_2_5_4_34_013_012 none l r) : FVec Ideal S4x64x128x8x96 .bf16 → FVec Ideal S4x64x8x2x128x128 .bf16 → FVec Ideal S4x64x8x96x2x128 .f32) (v14 A) (v49 A)
def v63 (A : Args) : FVec Ideal S4x64x128x8x2x96 .f32 := ((transpose S4x64x128x8x2x96 [0, 1, 5, 2, 4, 3] · transposes_S4x64x8x96x2x128_S4x64x128x8x2x96_0_1_5_2_4_3) : FVec Ideal S4x64x8x96x2x128 .f32 → FVec Ideal S4x64x128x8x2x96 .f32) (v62 A)
def v64 (A : Args) : FVec Ideal S4x64x128x8x2x96 .f32 := (addf : FVec Ideal S4x64x128x8x2x96 .f32 → FVec Ideal S4x64x128x8x2x96 .f32 → FVec Ideal S4x64x128x8x2x96 .f32) (v61 A) (v63 A)
def cst_3 (A : Args) : FVec Ideal S_ .f32 := constant S_ .f32 0x3DD105EC#32
def v65 (A : Args) : FVec Ideal S4x64x128x8x2x96 .f32 := (broadcastInDim S4x64x128x8x2x96 ![] bcast_S_S4x64x128x8x2x96 : FVec Ideal S_ .f32 → FVec Ideal S4x64x128x8x2x96 .f32) (cst_3 A)
def v66 (A : Args) : FVec Ideal S4x64x128x8x2x96 .f32 := (mulf : FVec Ideal S4x64x128x8x2x96 .f32 → FVec Ideal S4x64x128x8x2x96 .f32 → FVec Ideal S4x64x128x8x2x96 .f32) (v65 A) (v64 A)
def v67 (A : Args) : FVec Ideal S4x64x128x8x2x96 .bf16 := ((truncf .bf16 · bitsLt_bf16_f32) : FVec Ideal S4x64x128x8x2x96 .f32 → FVec Ideal S4x64x128x8x2x96 .bf16) (v66 A)
def v68 (A : Args) : FVec Ideal S4x8192x16x96 .bf16 := shapeCast S4x8192x16x96 (v67 A) shapeCasts_S4x64x128x8x2x96_S4x8192x16x96
def v69 (A : Args) : FVec Ideal S4x64x8x96x128 .f32 := ((fun l r => Host.dotGeneral dot_S4x64x8x96x192_S4x64x128x8x192_S4x64x8x96x128_4_4_3_2_012_013 none l r) : FVec Ideal S4x64x8x96x192 .bf16 → FVec Ideal S4x64x128x8x192 .bf16 → FVec Ideal S4x64x8x96x128 .f32) (v36 A) (v18 A)
def v70 (A : Args) : FVec Ideal S4x64x128x8x96 .f32 := ((transpose S4x64x128x8x96 [0, 1, 4, 2, 3] · transposes_S4x64x8x96x128_S4x64x128x8x96_0_1_4_2_3) : FVec Ideal S4x64x8x96x128 .f32 → FVec Ideal S4x64x128x8x96 .f32) (v69 A)
def v71 (A : Args) : FVec Ideal S4x64x8x96x128 .f32 := ((fun l r => Host.dotGeneral dot_S4x64x128x8x2x96_S4x64x8x2x128x128_S4x64x8x96x128_42_34_5_5_013_012 none l r) : FVec Ideal S4x64x128x8x2x96 .bf16 → FVec Ideal S4x64x8x2x128x128 .bf16 → FVec Ideal S4x64x8x96x128 .f32) (v10 A) (v49 A)
def v72 (A : Args) : FVec Ideal S4x64x128x8x96 .f32 := ((transpose S4x64x128x8x96 [0, 1, 4, 2, 3] · transposes_S4x64x8x96x128_S4x64x128x8x96_0_1_4_2_3) : FVec Ideal S4x64x8x96x128 .f32 → FVec Ideal S4x64x128x8x96 .f32) (v71 A)
def v73 (A : Args) : FVec Ideal S4x64x128x8x96 .f32 := (addf : FVec Ideal S4x64x128x8x96 .f32 → FVec Ideal S4x64x128x8x96 .f32 → FVec Ideal S4x64x128x8x96 .f32) (v70 A) (v72 A)
def cst_4 (A : Args) : FVec Ideal S_ .f32 := constant S_ .f32 0x3DD105EC#32
def v74 (A : Args) : FVec Ideal S4x64x128x8x96 .f32 := (broadcastInDim S4x64x128x8x96 ![] bcast_S_S4x64x128x8x96 : FVec Ideal S_ .f32 → FVec Ideal S4x64x128x8x96 .f32) (cst_4 A)
def v75 (A : Args) : FVec Ideal S4x64x128x8x96 .f32 := (mulf : FVec Ideal S4x64x128x8x96 .f32 → FVec Ideal S4x64x128x8x96 .f32 → FVec Ideal S4x64x128x8x96 .f32) (v74 A) (v73 A)
def v76 (A : Args) : FVec Ideal S4x64x128x8x96 .bf16 := ((truncf .bf16 · bitsLt_bf16_f32) : FVec Ideal S4x64x128x8x96 .f32 → FVec Ideal S4x64x128x8x96 .bf16) (v75 A)
def v77 (A : Args) : FVec Ideal S4x8192x8x96 .bf16 := shapeCast S4x8192x8x96 (v76 A) shapeCasts_S4x64x128x8x96_S4x8192x8x96
def v78 (A : Args) : FVec Ideal S4x64x8x192x128 .f32 := ((fun l r => Host.dotGeneral dot_S4x64x8x96x192_S4x64x128x8x96_S4x64x8x192x128_3_4_4_2_012_013 none l r) : FVec Ideal S4x64x8x96x192 .bf16 → FVec Ideal S4x64x128x8x96 .bf16 → FVec Ideal S4x64x8x192x128 .f32) (v36 A) (v14 A)
def v79 (A : Args) : FVec Ideal S4x64x128x8x192 .f32 := ((transpose S4x64x128x8x192 [0, 1, 4, 2, 3] · transposes_S4x64x8x192x128_S4x64x128x8x192_0_1_4_2_3) : FVec Ideal S4x64x8x192x128 .f32 → FVec Ideal S4x64x128x8x192 .f32) (v78 A)
def v80 (A : Args) : FVec Ideal S4x64x8x192x128 .f32 := ((fun l r => Host.dotGeneral dot_S4x64x128x8x2x192_S4x64x8x2x128x128_S4x64x8x192x128_42_34_5_5_013_012 none l r) : FVec Ideal S4x64x128x8x2x192 .bf16 → FVec Ideal S4x64x8x2x128x128 .bf16 → FVec Ideal S4x64x8x192x128 .f32) (v22 A) (v59 A)
def v81 (A : Args) : FVec Ideal S4x64x128x8x192 .f32 := ((transpose S4x64x128x8x192 [0, 1, 4, 2, 3] · transposes_S4x64x8x192x128_S4x64x128x8x192_0_1_4_2_3) : FVec Ideal S4x64x8x192x128 .f32 → FVec Ideal S4x64x128x8x192 .f32) (v80 A)
def v82 (A : Args) : FVec Ideal S4x64x128x8x192 .f32 := (addf : FVec Ideal S4x64x128x8x192 .f32 → FVec Ideal S4x64x128x8x192 .f32 → FVec Ideal S4x64x128x8x192 .f32) (v79 A) (v81 A)
def cst_5 (A : Args) : FVec Ideal S_ .f32 := constant S_ .f32 0x3DD105EC#32
def v83 (A : Args) : FVec Ideal S4x64x128x8x192 .f32 := (broadcastInDim S4x64x128x8x192 ![] bcast_S_S4x64x128x8x192 : FVec Ideal S_ .f32 → FVec Ideal S4x64x128x8x192 .f32) (cst_5 A)
def v84 (A : Args) : FVec Ideal S4x64x128x8x192 .f32 := (mulf : FVec Ideal S4x64x128x8x192 .f32 → FVec Ideal S4x64x128x8x192 .f32 → FVec Ideal S4x64x128x8x192 .f32) (v83 A) (v82 A)
def v85 (A : Args) : FVec Ideal S4x64x128x8x192 .bf16 := ((truncf .bf16 · bitsLt_bf16_f32) : FVec Ideal S4x64x128x8x192 .f32 → FVec Ideal S4x64x128x8x192 .bf16) (v84 A)
def v86 (A : Args) : FVec Ideal S4x8192x8x192 .bf16 := shapeCast S4x8192x8x192 (v85 A) shapeCasts_S4x64x128x8x192_S4x8192x8x192

end Cert.ReferenceIdeal.Hand
end
-- ==== Proof.RefTail.lean ====
module

public import proofs.«01_k».proof.Proof.RefRegion
public import proofs.«01_k».proof.Proof.RefLines

/-! The reference's three result buffers at the end of its run, as the last of its lines. -/

@[expose] public section

set_option maxRecDepth 8192

noncomputable section

namespace Cert.ReferenceIdeal.Hand

open Idealize.ShloMosaic Idealize.ShloMosaic.TcCoe Idealize.ShloMosaic.Tactic
open Idealize.SL.Sem
open Cert.ReferenceIdeal.Gen Cert.Hand
open scoped BigOperators

variable (m : (ℓ : Loc nD τ sig) → Buf (Elt Ideal) ℓ)

/-- The argument arrays in core `c`'s memory. -/
def args (c : Dev nD) : Args where
  q := m ((c.tc : Thread nD τ).loc main_arg0)
  k := m ((c.tc : Thread nD τ).loc main_arg1)
  v := m ((c.tc : Thread nD τ).loc main_arg2)
  qs := m ((c.tc : Thread nD τ).loc main_arg3)
  ks := m ((c.tc : Thread nD τ).loc main_arg4)
  vs := m ((c.tc : Thread nD τ).loc main_arg5)
  dO := m ((c.tc : Thread nD τ).loc main_arg6)
  dos := m ((c.tc : Thread nD τ).loc main_arg7)

/-- The argument arrays as a valuation has them once the first step is over. -/
def argsOf (V : Valuation τ sig (Elt Ideal)) : Args where
  q := V (Proc.devRef .tc main_v0_0)
  k := V (Proc.devRef .tc main_v0_1)
  v := V (Proc.devRef .tc main_v0_2)
  qs := V (Proc.devRef .tc main_arg3)
  ks := V (Proc.devRef .tc main_arg4)
  vs := V (Proc.devRef .tc main_arg5)
  dO := V (Proc.devRef .tc main_v0_3)
  dos := V (Proc.devRef .tc main_arg7)

theorem argsOf_V1 (c : Dev nD) : argsOf (V1 m c) = args m c := by
  unfold argsOf args
  rw [V1_q, V1_k, V1_v, V1_do, V1_qs, V1_ks, V1_vs, V1_dos]
  rfl

/-- The reference's lines after its first step. -/
abbrev tailOps : List (HloOp τ sig (Elt Ideal)) := List.flatten [hostOps1, hostOps1_1, hostOps1_2, hostOps1_3, hostOps1_4, hostOps1_5, hostOps1_6, hostOps1_7, hostOps1_8, hostOps1_9, hostOps1_10, hostOps1_11, hostOps1_12, hostOps1_13]

set_option maxHeartbeats 4000000 in
theorem after_dq (V : Valuation τ sig (Elt Ideal)) : StableHlo.after tailOps V (Proc.devRef .tc main_v68) = v68 (argsOf V) := by
  after_reads_simp
  rfl

theorem tail_dq (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13] c main_v68 = v68 (args m c) :=
  (after_dq (V1 m c)).trans (congrArg v68 (argsOf_V1 m c))

set_option maxHeartbeats 4000000 in
theorem after_dk (V : Valuation τ sig (Elt Ideal)) : StableHlo.after tailOps V (Proc.devRef .tc main_v77) = v77 (argsOf V) := by
  after_reads_simp
  rfl

theorem tail_dk (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13] c main_v77 = v77 (args m c) :=
  (after_dk (V1 m c)).trans (congrArg v77 (argsOf_V1 m c))

set_option maxHeartbeats 4000000 in
theorem after_dv (V : Valuation τ sig (Elt Ideal)) : StableHlo.after tailOps V (Proc.devRef .tc main_v86) = v86 (argsOf V) := by
  after_reads_simp
  rfl

theorem tail_dv (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13] c main_v86 = v86 (args m c) :=
  (after_dv (V1 m c)).trans (congrArg v86 (argsOf_V1 m c))

end Cert.ReferenceIdeal.Hand
end
-- ==== Proof.Cumsum.lean ====
module

public import proofs.«01_k».proof.Proof.Gen.ReferenceIdeal.Launch
public import proofs.«01_k».proof.Proof.Result
public import Idealize.ShloMosaic.Lib.Tactic

/-! The reference's running sums over chunks, shifted by one chunk: a window sum that is sliced and padded. -/

@[expose] public section

set_option maxRecDepth 8192

noncomputable section

namespace Cert.ReferenceIdeal.Hand

open Idealize.ShloMosaic Idealize.ShloMosaic.TcCoe Idealize.ShloMosaic.Tactic
open Cert.ReferenceIdeal.Gen Cert.Hand
open scoped BigOperators

/-- A left fold of additions over all positions is the sum. -/
theorem foldl_add_sum {N : ℕ} (f : Fin N → EReal) (v : EReal) :
    (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, ← List.ofFn_eq_map, List.sum_ofFn]

/-- A sum over a window that is long on its second axis alone. -/
theorem sum_window5 (f : (⟨5, ![1, 64, 1, 1, 1]⟩ : Shape).Idx → EReal) :
    ∑ w, f w = ∑ k : Fin 64, f (ix5 0 k 0 0 0) := by
  refine Finset.sum_nbij' (fun w => w 1) (fun k => ix5 0 k 0 0 0) (fun _ _ => Finset.mem_univ _) (fun _ _ => Finset.mem_univ _) ?_ (fun _ _ => rfl) ?_
  · intro w _
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
    | ⟨4, _⟩ => exact Subsingleton.elim (α := Fin 1) _ _
  · intro w _
    refine congrArg f ?_
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
    | ⟨4, _⟩ => exact Subsingleton.elim (α := Fin 1) _ _

/-- The chunks a window padded in front reaches are those up to its own. -/
theorem sum_upto (n : Fin 64) (f : Fin 64 → EReal) :
    (∑ k : Fin 64, if h : 63 ≤ n.val + k.val ∧ n.val + k.val - 63 < 64 then f ⟨n.val + k.val - 63, h.2⟩ else 0)
      = ∑ m : Fin 64, if m.val ≤ n.val then f m else 0 := by
  have e : (∑ k : Fin 64, if h : 63 ≤ n.val + k.val ∧ n.val + k.val - 63 < 64 then f ⟨n.val + k.val - 63, h.2⟩ else 0)
      = ∑ k : Fin 64, if 63 ≤ n.val + k.val then f ⟨n.val + k.val - 63, by omega⟩ else 0 := by
    refine Finset.sum_congr rfl fun k _ => ?_
    by_cases h : 63 ≤ n.val + k.val
    · rw [dif_pos ⟨h, by omega⟩, if_pos h]
    · rw [dif_neg fun hh => h hh.1, if_neg h]
  rw [e, ← Finset.sum_filter, ← Finset.sum_filter]
  refine Finset.sum_nbij' (fun k => ⟨n.val + k.val - 63, by omega⟩) (fun m => ⟨63 - (n.val - m.val), by omega⟩) ?_ ?_ ?_ ?_ ?_
  · intro k hk
    simp only [Finset.mem_filter, Finset.mem_univ, true_and] at hk ⊢
    omega
  · intro k hk
    simp only [Finset.mem_filter, Finset.mem_univ, true_and] at hk ⊢
    omega
  · intro k hk
    simp only [Finset.mem_filter, Finset.mem_univ, true_and] at hk
    apply Fin.ext
    simp only
    omega
  · intro k hk
    simp only [Finset.mem_filter, Finset.mem_univ, true_and] at hk
    apply Fin.ext
    simp only
    omega
  · intro k hk
    rfl

/-- The chunks a window padded behind reaches are those from its own on. -/
theorem sum_from (n : Fin 64) (f : Fin 64 → EReal) :
    (∑ k : Fin 64, if h : n.val + k.val < 64 then f ⟨n.val + k.val, h⟩ else 0)
      = ∑ m : Fin 64, if n.val ≤ m.val then f m else 0 := by
  have e : (∑ k : Fin 64, if h : n.val + k.val < 64 then f ⟨n.val + k.val, h⟩ else 0)
      = ∑ k : Fin 64, if n.val + k.val < 64 then f ⟨min (n.val + k.val) 63, by omega⟩ else 0 := by
    refine Finset.sum_congr rfl fun k _ => ?_
    by_cases h : n.val + k.val < 64
    · rw [dif_pos h, if_pos h]
      exact congrArg f (Fin.ext (by simp only; omega))
    · rw [dif_neg h, if_neg h]
  rw [e, ← Finset.sum_filter, ← Finset.sum_filter]
  refine Finset.sum_nbij' (fun k => ⟨min (n.val + k.val) 63, by omega⟩) (fun m => ⟨m.val - n.val, by omega⟩) ?_ ?_ ?_ ?_ ?_
  · intro k hk
    simp only [Finset.mem_filter, Finset.mem_univ, true_and] at hk ⊢
    omega
  · intro k hk
    simp only [Finset.mem_filter, Finset.mem_univ, true_and] at hk ⊢
    omega
  · intro k hk
    simp only [Finset.mem_filter, Finset.mem_univ, true_and] at hk
    apply Fin.ext
    simp only
    omega
  · intro k hk
    simp only [Finset.mem_filter, Finset.mem_univ, true_and] at hk
    apply Fin.ext
    simp only
    omega
  · intro k hk
    rfl

/-- What a window over chunks reads at one of its places: the operand inside it, zero in the padding. -/
def winTerm (lo : Fin 5 → ℕ) (x : FVec Ideal S4x64x8x96x192 .f32) (j : S4x64x8x96x192.Idx) (w : (⟨5, ![1, 64, 1, 1, 1]⟩ : Shape).Idx) : EReal :=
  if hin : ∀ a : Fin 5, lo a ≤ (j a).val * (![1, 1, 1, 1, 1] : Fin 5 → ℕ) a + (w a).val
      ∧ (j a).val * (![1, 1, 1, 1, 1] : Fin 5 → ℕ) a + (w a).val - lo a < S4x64x8x96x192.size a
    then x (fun a => ⟨_, (hin a).2⟩) else 0

/-- A window sum over chunks as a sum over the window. -/
theorem windowAdd_sum (lo hi : Fin 5 → ℕ) (x : FVec Ideal S4x64x8x96x192 .f32) (init : FVec Ideal S_ .f32) (hz : init ix0 = 0)
    (h : S4x64x8x96x192.ReduceWindows (![1, 64, 1, 1, 1] : Fin 5 → ℕ) ![1, 1, 1, 1, 1] lo hi S4x64x8x96x192) (j : S4x64x8x96x192.Idx) :
    Host.reduceWindowAdd ![1, 64, 1, 1, 1] ![1, 1, 1, 1, 1] lo hi x init h h_S_ j
      = ∑ k : Fin 64, winTerm lo x j (ix5 0 k 0 0 0) := by
  have hv : init (Shape.Idx.first h_S_) = 0 := (congrArg init (ix0_eta _).symm).trans hz
  show Host.reduceWindow (· + ·) ![1, 64, 1, 1, 1] ![1, 1, 1, 1, 1] lo hi x (fun _ : (⟨0, ![]⟩ : Shape).Idx => init (Shape.Idx.first h_S_)) h (by decide) j = _
  rw [hv]
  unfold Host.reduceWindow
  refine (congrArg (fun g => List.foldl g (0 : EReal) (List.finRange _)) (funext fun r => funext fun n => ?_)).trans ((foldl_add_sum (fun n => winTerm lo x j ((⟨5, ![1, 64, 1, 1, 1]⟩ : Shape).rowMajor.symm n)) 0).trans ?_)
  · refine congrArg (fun z => r + z) ?_
    unfold winTerm
    exact dite_congr rfl (fun _ => rfl) fun _ => rfl
  rw [zero_add]
  exact (Equiv.sum_comp (⟨5, ![1, 64, 1, 1, 1]⟩ : Shape).rowMajor.symm (winTerm lo x j)).trans (sum_window5 _)

/-- The sum over the chunks up to a chunk. -/
theorem cumsum_fwd (x : FVec Ideal S4x64x8x96x192 .f32) (init : FVec Ideal S_ .f32) (hz : init ix0 = 0)
    (b : Fin 4) (n : Fin 64) (h : Fin 8) (d : Fin 96) (e : Fin 192) :
    Host.reduceWindowAdd ![1, 64, 1, 1, 1] ![1, 1, 1, 1, 1] ![0, 63, 0, 0, 0] ![0, 0, 0, 0, 0] x init reduceWindows_S4x64x8x96x192_S4x64x8x96x192_w1s1p0_0_w64s1p63_0_w1s1p0_0_w1s1p0_0_w1s1p0_0 h_S_ (ix5 b n h d e)
      = ∑ m : Fin 64, if m.val ≤ n.val then x (ix5 b m h d e) else 0 := by
  rw [windowAdd_sum _ _ _ _ hz, ← sum_upto n fun m => x (ix5 b m h d e)]
  refine Finset.sum_congr rfl fun k _ => ?_
  unfold winTerm
  by_cases hk : 63 ≤ n.val + k.val ∧ n.val + k.val - 63 < 64
  · rw [dif_pos hk, dif_pos]
    · refine congrArg x (funext fun a => Fin.ext ?_)
      match a with
      | ⟨0, _⟩ => show b.val * 1 + 0 - 0 = b.val; omega
      | ⟨1, _⟩ => show n.val * 1 + k.val - 63 = n.val + k.val - 63; omega
      | ⟨2, _⟩ => show h.val * 1 + 0 - 0 = h.val; omega
      | ⟨3, _⟩ => show d.val * 1 + 0 - 0 = d.val; omega
      | ⟨4, _⟩ => show e.val * 1 + 0 - 0 = e.val; omega
    · intro a
      match a with
      | ⟨0, _⟩ => show 0 ≤ b.val * 1 + 0 ∧ b.val * 1 + 0 - 0 < 4; omega
      | ⟨1, _⟩ => show 63 ≤ n.val * 1 + k.val ∧ n.val * 1 + k.val - 63 < 64; omega
      | ⟨2, _⟩ => show 0 ≤ h.val * 1 + 0 ∧ h.val * 1 + 0 - 0 < 8; omega
      | ⟨3, _⟩ => show 0 ≤ d.val * 1 + 0 ∧ d.val * 1 + 0 - 0 < 96; omega
      | ⟨4, _⟩ => show 0 ≤ e.val * 1 + 0 ∧ e.val * 1 + 0 - 0 < 192; omega
  · rw [dif_neg hk, dif_neg]
    intro hin
    have h1 : 63 ≤ n.val * 1 + k.val ∧ n.val * 1 + k.val - 63 < 64 := hin 1
    exact hk (by omega)

/-- The sum over the chunks from a chunk on. -/
theorem cumsum_rev (x : FVec Ideal S4x64x8x96x192 .f32) (init : FVec Ideal S_ .f32) (hz : init ix0 = 0)
    (b : Fin 4) (n : Fin 64) (h : Fin 8) (d : Fin 96) (e : Fin 192) :
    Host.reduceWindowAdd ![1, 64, 1, 1, 1] ![1, 1, 1, 1, 1] ![0, 0, 0, 0, 0] ![0, 63, 0, 0, 0] x init reduceWindows_S4x64x8x96x192_S4x64x8x96x192_w1s1p0_0_w64s1p0_63_w1s1p0_0_w1s1p0_0_w1s1p0_0 h_S_ (ix5 b n h d e)
      = ∑ m : Fin 64, if n.val ≤ m.val then x (ix5 b m h d e) else 0 := by
  rw [windowAdd_sum _ _ _ _ hz, ← sum_from n fun m => x (ix5 b m h d e)]
  refine Finset.sum_congr rfl fun k _ => ?_
  unfold winTerm
  by_cases hk : n.val + k.val < 64
  · rw [dif_pos hk, dif_pos]
    · refine congrArg x (funext fun a => Fin.ext ?_)
      match a with
      | ⟨0, _⟩ => show b.val * 1 + 0 - 0 = b.val; omega
      | ⟨1, _⟩ => show n.val * 1 + k.val - 0 = n.val + k.val; omega
      | ⟨2, _⟩ => show h.val * 1 + 0 - 0 = h.val; omega
      | ⟨3, _⟩ => show d.val * 1 + 0 - 0 = d.val; omega
      | ⟨4, _⟩ => show e.val * 1 + 0 - 0 = e.val; omega
    · intro a
      match a with
      | ⟨0, _⟩ => show 0 ≤ b.val * 1 + 0 ∧ b.val * 1 + 0 - 0 < 4; omega
      | ⟨1, _⟩ => show 0 ≤ n.val * 1 + k.val ∧ n.val * 1 + k.val - 0 < 64; omega
      | ⟨2, _⟩ => show 0 ≤ h.val * 1 + 0 ∧ h.val * 1 + 0 - 0 < 8; omega
      | ⟨3, _⟩ => show 0 ≤ d.val * 1 + 0 ∧ d.val * 1 + 0 - 0 < 96; omega
      | ⟨4, _⟩ => show 0 ≤ e.val * 1 + 0 ∧ e.val * 1 + 0 - 0 < 192; omega
  · rw [dif_neg hk, dif_neg]
    intro hin
    have h1 : 0 ≤ n.val * 1 + k.val ∧ n.val * 1 + k.val - 0 < 64 := hin 1
    exact hk (by omega)

/-- A row of chunks moved one chunk later, the first chunk taking the padding. -/
theorem shift_later (x : FVec Ideal S4x64x8x96x192 .f32) (v : FVec Ideal S_ .f32) (hz : v ix0 = 0)
    (b : Fin 4) (n : Fin 64) (h : Fin 8) (d : Fin 96) (e : Fin 192) :
    pad S4x64x8x96x192 ![0, 1, 0, 0, 0] ![0, 0, 0, 0, 0] ![0, 0, 0, 0, 0] (extractStridedSlice S4x63x8x96x192 ![0, 0, 0, 0, 0] x slices_S4x64x8x96x192_S4x63x8x96x192_0_0_0_0_0) v pads_S4x63x8x96x192_S4x64x8x96x192_000_100_000_000_000 h_S_ (ix5 b n h d e)
      = if hn : 1 ≤ n.val then x (ix5 b ⟨n.val - 1, by omega⟩ h d e) else 0 := by
  have hv : v (Shape.Idx.first h_S_) = 0 := (congrArg v (ix0_eta _).symm).trans hz
  unfold pad
  dsimp only
  by_cases hn : 1 ≤ n.val
  · rw [dif_pos hn, dif_pos]
    · refine congrArg x (funext fun a => Fin.ext ?_)
      match a with
      | ⟨0, _⟩ => show 0 + (b.val - 0) / (0 + 1) = b.val; omega
      | ⟨1, _⟩ => show 0 + (n.val - 1) / (0 + 1) = n.val - 1; omega
      | ⟨2, _⟩ => show 0 + (h.val - 0) / (0 + 1) = h.val; omega
      | ⟨3, _⟩ => show 0 + (d.val - 0) / (0 + 1) = d.val; omega
      | ⟨4, _⟩ => show 0 + (e.val - 0) / (0 + 1) = e.val; omega
    · intro a
      match a with
      | ⟨0, _⟩ => show 0 ≤ b.val ∧ (b.val - 0) % (0 + 1) = 0 ∧ (b.val - 0) / (0 + 1) < 4; omega
      | ⟨1, _⟩ => show 1 ≤ n.val ∧ (n.val - 1) % (0 + 1) = 0 ∧ (n.val - 1) / (0 + 1) < 63; omega
      | ⟨2, _⟩ => show 0 ≤ h.val ∧ (h.val - 0) % (0 + 1) = 0 ∧ (h.val - 0) / (0 + 1) < 8; omega
      | ⟨3, _⟩ => show 0 ≤ d.val ∧ (d.val - 0) % (0 + 1) = 0 ∧ (d.val - 0) / (0 + 1) < 96; omega
      | ⟨4, _⟩ => show 0 ≤ e.val ∧ (e.val - 0) % (0 + 1) = 0 ∧ (e.val - 0) / (0 + 1) < 192; omega
  · rw [dif_neg hn, dif_neg]
    · exact hv
    · intro hin
      have h1 : 1 ≤ n.val ∧ (n.val - 1) % (0 + 1) = 0 ∧ (n.val - 1) / (0 + 1) < 63 := hin 1
      exact hn h1.1

/-- A row of chunks moved one chunk earlier, the last chunk taking the padding. -/
theorem shift_earlier (x : FVec Ideal S4x64x8x96x192 .f32) (v : FVec Ideal S_ .f32) (hz : v ix0 = 0)
    (b : Fin 4) (n : Fin 64) (h : Fin 8) (d : Fin 96) (e : Fin 192) :
    pad S4x64x8x96x192 ![0, 0, 0, 0, 0] ![0, 1, 0, 0, 0] ![0, 0, 0, 0, 0] (extractStridedSlice S4x63x8x96x192 ![0, 1, 0, 0, 0] x slices_S4x64x8x96x192_S4x63x8x96x192_0_1_0_0_0) v pads_S4x63x8x96x192_S4x64x8x96x192_000_010_000_000_000 h_S_ (ix5 b n h d e)
      = if hn : n.val + 1 < 64 then x (ix5 b ⟨n.val + 1, hn⟩ h d e) else 0 := by
  have hv : v (Shape.Idx.first h_S_) = 0 := (congrArg v (ix0_eta _).symm).trans hz
  unfold pad
  dsimp only
  by_cases hn : n.val + 1 < 64
  · rw [dif_pos hn, dif_pos]
    · refine congrArg x (funext fun a => Fin.ext ?_)
      match a with
      | ⟨0, _⟩ => show 0 + (b.val - 0) / (0 + 1) = b.val; omega
      | ⟨1, _⟩ => show 1 + (n.val - 0) / (0 + 1) = n.val + 1; omega
      | ⟨2, _⟩ => show 0 + (h.val - 0) / (0 + 1) = h.val; omega
      | ⟨3, _⟩ => show 0 + (d.val - 0) / (0 + 1) = d.val; omega
      | ⟨4, _⟩ => show 0 + (e.val - 0) / (0 + 1) = e.val; omega
    · intro a
      match a with
      | ⟨0, _⟩ => show 0 ≤ b.val ∧ (b.val - 0) % (0 + 1) = 0 ∧ (b.val - 0) / (0 + 1) < 4; omega
      | ⟨1, _⟩ => show 0 ≤ n.val ∧ (n.val - 0) % (0 + 1) = 0 ∧ (n.val - 0) / (0 + 1) < 63; omega
      | ⟨2, _⟩ => show 0 ≤ h.val ∧ (h.val - 0) % (0 + 1) = 0 ∧ (h.val - 0) / (0 + 1) < 8; omega
      | ⟨3, _⟩ => show 0 ≤ d.val ∧ (d.val - 0) % (0 + 1) = 0 ∧ (d.val - 0) / (0 + 1) < 96; omega
      | ⟨4, _⟩ => show 0 ≤ e.val ∧ (e.val - 0) % (0 + 1) = 0 ∧ (e.val - 0) / (0 + 1) < 192; omega
  · rw [dif_neg hn, dif_neg]
    · exact hv
    · intro hin
      have h1 : 0 ≤ n.val ∧ (n.val - 0) % (0 + 1) = 0 ∧ (n.val - 0) / (0 + 1) < 63 := hin 1
      omega

end Cert.ReferenceIdeal.Hand
end
-- ==== Proof.RefStages.lean ====
module

public import proofs.«01_k».proof.Proof.RefLines
public import proofs.«01_k».proof.Proof.Cumsum

/-! The reference's intermediate arrays at an index, in terms of one batch entry's key head: the scaled operands and the
    contributions of a chunk. -/

@[expose] public section

set_option maxRecDepth 8192

noncomputable section

namespace Cert.ReferenceIdeal.Hand

open Idealize.ShloMosaic Idealize.ShloMosaic.TcCoe Idealize.ShloMosaic.Tactic
open Cert.ReferenceIdeal.Gen Cert.Hand
open scoped BigOperators

variable (A : Args)

theorem pos_val (n : Fin 64) (t : Fin 128) (h : n.val * 128 + t.val < 8192) : (⟨n.val * 128 + t.val, h⟩ : Fin 8192) = pos n t :=
  Fin.ext (by simp only [pos]; omega)
theorem qhead_val (h : Fin 8) (g : Fin 2) (hh : h.val * 2 + g.val < 16) : (⟨h.val * 2 + g.val, hh⟩ : Fin 16) = qhead h g :=
  Fin.ext (by simp only [qhead]; omega)

/-! The operands, cut into chunks, and their scales. -/

theorem v1_at (b : Fin 4) (n : Fin 64) (t : Fin 128) (h : Fin 8) (g : Fin 2) (d : Fin 96) :
    v1 A (ix6 b n t h g d) = (A.head b h).q g n t d := by
  unfold v1
  pointwise
  rw [pos_val, qhead_val]
  rfl

theorem v2_at (b : Fin 4) (n : Fin 64) (t : Fin 128) (h : Fin 8) (d : Fin 96) :
    v2 A (ix5 b n t h d) = (A.head b h).k n t d := by
  unfold v2
  pointwise
  rw [pos_val]
  rfl

theorem v3_at (b : Fin 4) (n : Fin 64) (t : Fin 128) (h : Fin 8) (e : Fin 192) :
    v3 A (ix5 b n t h e) = (A.head b h).v n t e := by
  unfold v3
  pointwise
  rw [pos_val]
  rfl

theorem v4_at (b : Fin 4) (n : Fin 64) (t : Fin 128) (h : Fin 8) (g : Fin 2) (e : Fin 192) :
    v4 A (ix6 b n t h g e) = (A.head b h).dO g n t e := by
  unfold v4
  pointwise
  rw [pos_val, qhead_val]
  rfl

theorem v5_at (b : Fin 4) (n : Fin 64) (h : Fin 8) (g : Fin 2) : v5 A (ix4 b n h g) = (A.head b h).qs g n := by
  unfold v5
  pointwise
  rw [qhead_val]
  rfl

theorem v6_at (b : Fin 4) (n : Fin 64) (t : Fin 128) (h : Fin 8) (g : Fin 2) :
    v6 A (ix5 b n t h g) = (A.head b h).dos g n t := by
  unfold v6
  pointwise
  rw [pos_val, qhead_val]
  rfl

/-! The scaled operands. -/

theorem v10_at (b : Fin 4) (n : Fin 64) (t : Fin 128) (h : Fin 8) (g : Fin 2) (d : Fin 96) :
    v10 A (ix6 b n t h g d) = (A.head b h).qb g n t d := by
  unfold v10 v9 v8 v7
  pointwise
  rw [v1_at, v5_at]
  rfl

theorem v14_at (b : Fin 4) (n : Fin 64) (t : Fin 128) (h : Fin 8) (d : Fin 96) :
    v14 A (ix5 b n t h d) = (A.head b h).kb n t d := by
  unfold v14 v13 v12 v11
  pointwise
  rw [v2_at]
  rfl

theorem v18_at (b : Fin 4) (n : Fin 64) (t : Fin 128) (h : Fin 8) (e : Fin 192) :
    v18 A (ix5 b n t h e) = (A.head b h).vb n t e := by
  unfold v18 v17 v16 v15
  pointwise
  rw [v3_at]
  rfl

theorem v22_at (b : Fin 4) (n : Fin 64) (t : Fin 128) (h : Fin 8) (g : Fin 2) (e : Fin 192) :
    v22 A (ix6 b n t h g e) = (A.head b h).dob g n t e := by
  unfold v22 v21 v20 v19
  pointwise
  rw [v4_at, v6_at]
  rfl

/-! What one chunk contributes to the state and to its cotangent. -/

theorem v27_at (b : Fin 4) (n : Fin 64) (h : Fin 8) (d : Fin 96) (e : Fin 192) :
    v27 A (ix5 b n h d e) = (A.head b h).U n d e := by
  unfold v27 v26 v25 v24 v23
  pointwise
  simp only [v2_at, v3_at]
  rfl

theorem v28_at (b : Fin 4) (n : Fin 64) (h : Fin 8) (d : Fin 96) (e : Fin 192) :
    v28 A (ix5 b n h d e) = (A.head b h).W n e d := by
  unfold v28
  pointwise
  simp only [v10_at, v22_at]
  exact Finset.sum_congr rfl fun g _ => Finset.sum_congr rfl fun t _ => mul_comm _ _

/-! The state a chunk starts from, and the cotangent of the state it leaves. -/

theorem v35_at (b : Fin 4) (n : Fin 64) (h : Fin 8) (d : Fin 96) (e : Fin 192) :
    v35 A (ix5 b n h d e) = (A.head b h).S n.val d e := by
  unfold v35
  show v31 A (ix5 b n h d e) = _
  unfold v31 v30
  refine (shift_later (v29 A) (call1_v0 A) ?_ b n h d e).trans ?_
  · unfold call1_v0 c
    pointwise
    show (((0#32 : BitVec 32).toInt : ℝ) : EReal) = 0
    simp
  · unfold Head.S v29
    by_cases hn : 1 ≤ n.val
    · rw [dif_pos hn]
      refine (cumsum_fwd (v27 A) (call0_call0_v0 A) ?_ b _ h d e).trans (Finset.sum_congr rfl fun k _ => ?_)
      · unfold call0_call0_v0 call0_call0_cst
        pointwise
      · rw [v27_at]
        exact if_congr (by show k.val ≤ n.val - 1 ↔ k.val < n.val; omega) rfl rfl
    · rw [dif_neg hn]
      refine (Finset.sum_eq_zero fun k _ => if_neg ?_).symm
      omega

theorem v36_at (b : Fin 4) (n : Fin 64) (h : Fin 8) (d : Fin 96) (e : Fin 192) :
    v36 A (ix5 b n h d e) = (A.head b h).T (n.val + 1) e d := by
  unfold v36
  show v34 A (ix5 b n h d e) = _
  unfold v34 v33
  refine (shift_earlier (v32 A) (call3_v0 A) ?_ b n h d e).trans ?_
  · unfold call3_v0 c_0
    pointwise
    show (((0#32 : BitVec 32).toInt : ℝ) : EReal) = 0
    simp
  · unfold Head.T v32
    by_cases hn : n.val + 1 < 64
    · rw [dif_pos hn]
      refine (cumsum_rev (v28 A) (call2_v0 A) ?_ b _ h d e).trans (Finset.sum_congr rfl fun k _ => ?_)
      · unfold call2_v0 call2_cst
        pointwise
      · rw [v28_at]
    · rw [dif_neg hn]
      refine (Finset.sum_eq_zero fun k _ => if_neg ?_).symm
      have := k.isLt
      omega

/-! The causal products inside a chunk. -/

theorem zero_word : (id (constant (F := Ideal) S_ FTy.f32 0x00000000#32) ix0 : EReal) = 0 := by
  show (constant (F := Ideal) S_ FTy.f32 0x00000000#32) ix0 = 0
  pointwise

theorem mask_word : ∀ t s : Fin 128, Scalar.select (IntOp.cmpi CmpIPredicate.sge (IntOp.addi (BitVec.ofNat 32 t.val) 0#32) (BitVec.ofNat 32 s.val)) 1#1 0#1
    = if s.val ≤ t.val then 1#1 else 0#1 := by decide +kernel

theorem v38_at (t s : Fin 128) : v38 A (ix2 t s) = if s.val ≤ t.val then 1#1 else 0#1 := by
  unfold v38 call4_v5 call4_c_0 call4_v4 call4_v3 call4_v2 call4_v1 call4_c call4_v0 v37 c_1
  pointwise
  exact mask_word t s

theorem v49_at (b : Fin 4) (n : Fin 64) (h : Fin 8) (g : Fin 2) (t s : Fin 128) :
    v49 A (ix6 b n h g t s) = (A.head b h).A n g t s := by
  unfold v49 v48 call5_v2 call5_v1 call5_v0 cst v47 v46 v45 v44 v43 v42 v41 v40 v39
  pointwise
  simp only [v3_at, v4_at, v6_at, v38_at]
  rw [zero_word, mul_assoc]
  unfold Head.A
  split <;> rfl

theorem v59_at (b : Fin 4) (n : Fin 64) (h : Fin 8) (g : Fin 2) (t s : Fin 128) :
    v59 A (ix6 b n h g t s) = (A.head b h).P n g t s := by
  unfold v59 v58 call6_v2 call6_v1 call6_v0 cst_2 v57 v56 v55 v54 v53 v52 v51 v50
  pointwise
  simp only [v1_at, v2_at, v5_at, v38_at]
  rw [zero_word]
  unfold Head.P
  split <;> rfl

/-! The three results. -/

theorem v67_at (b : Fin 4) (n : Fin 64) (t : Fin 128) (h : Fin 8) (g : Fin 2) (d : Fin 96) :
    v67 A (ix6 b n t h g d) = (A.head b h).dq (Scalar.ofBits (F := Ideal) .f32 0x3DD105EC#32) g n t d := by
  unfold v67 v66 v65 cst_3 v64 v63 v62 v61 v60
  pointwise
  simp only [v35_at, v22_at, v14_at, v49_at]
  rfl

theorem v76_at (b : Fin 4) (n : Fin 64) (s : Fin 128) (h : Fin 8) (d : Fin 96) :
    v76 A (ix5 b n s h d) = (A.head b h).dk (Scalar.ofBits (F := Ideal) .f32 0x3DD105EC#32) n s d := by
  unfold v76 v75 v74 cst_4 v73 v72 v71 v70 v69
  pointwise
  simp only [v36_at, v18_at, v10_at, v49_at]
  rfl

theorem v85_at (b : Fin 4) (n : Fin 64) (s : Fin 128) (h : Fin 8) (e : Fin 192) :
    v85 A (ix5 b n s h e) = (A.head b h).dv (Scalar.ofBits (F := Ideal) .f32 0x3DD105EC#32) n s e := by
  unfold v85 v84 v83 cst_5 v82 v81 v80 v79 v78
  pointwise
  simp only [v36_at, v14_at, v22_at, v59_at]
  rfl

theorem v68_at (b : Fin 4) (p : Fin 8192) (x : Fin 16) (d : Fin 96) :
    v68 A (ix4 b p x d) = A.dq (Scalar.ofBits (F := Ideal) .f32 0x3DD105EC#32) b p x d := by
  unfold v68
  pointwise
  exact v67_at A b (chunkOf p) (placeOf p) (khead x) (group x) d

theorem v77_at (b : Fin 4) (p : Fin 8192) (h : Fin 8) (d : Fin 96) :
    v77 A (ix4 b p h d) = A.dk (Scalar.ofBits (F := Ideal) .f32 0x3DD105EC#32) b p h d := by
  unfold v77
  pointwise
  exact v76_at A b (chunkOf p) (placeOf p) h d

theorem v86_at (b : Fin 4) (p : Fin 8192) (h : Fin 8) (e : Fin 192) :
    v86 A (ix4 b p h e) = A.dv (Scalar.ofBits (F := Ideal) .f32 0x3DD105EC#32) b p h e := by
  unfold v86
  pointwise
  exact v85_at A b (chunkOf p) (placeOf p) h e

end Cert.ReferenceIdeal.Hand
end
-- ==== Proof.RefValue.lean ====
module

public import proofs.«01_k».proof.Proof.RefTail
public import proofs.«01_k».proof.Proof.RefStages

/-! The reference's three results after its run, as functions of the argument arrays. -/

@[expose] public section

set_option maxRecDepth 8192

noncomputable section

namespace Cert.ReferenceIdeal.Hand

open Idealize.ShloMosaic Idealize.ShloMosaic.TcCoe Idealize.ShloMosaic.Tactic
open Idealize.SL.Sem
open Cert.ReferenceIdeal.Gen Cert.Hand
open scoped BigOperators

variable (m : (ℓ : Loc nD τ sig) → Buf (Elt Ideal) ℓ) (ρ : Dev nD → PrngReg)

/-- The softmax scale as the program spells it. -/
def scale : EReal := Scalar.ofBits (F := Ideal) .f32 0x3DD105EC#32

/-- The three results. -/
def resDq (c : Dev nD) : Buf (Elt Ideal) ((c.tc : Thread nD τ).loc main_v68) := fun i => (args m c).dq scale (i 0) (i 1) (i 2) (i 3)
def resDk (c : Dev nD) : Buf (Elt Ideal) ((c.tc : Thread nD τ).loc main_v77) := fun i => (args m c).dk scale (i 0) (i 1) (i 2) (i 3)
def resDv (c : Dev nD) : Buf (Elt Ideal) ((c.tc : Thread nD τ).loc main_v86) := fun i => (args m c).dv scale (i 0) (i 1) (i 2) (i 3)

theorem value_dq (c : Dev nD) : v68 (args m c) = resDq m c := by
  funext i
  obtain ⟨b, p, x, d, rfl⟩ : ∃ (b : Fin 4) (p : Fin 8192) (x : Fin 16) (d : Fin 96), i = ix4 b p x d :=
    ⟨i 0, i 1, i 2, i 3, funext fun a => match a with | ⟨0, _⟩ => rfl | ⟨1, _⟩ => rfl | ⟨2, _⟩ => rfl | ⟨3, _⟩ => rfl⟩
  exact v68_at (args m c) b p x d

theorem value_dk (c : Dev nD) : v77 (args m c) = resDk m c := by
  funext i
  obtain ⟨b, p, x, d, rfl⟩ : ∃ (b : Fin 4) (p : Fin 8192) (x : Fin 8) (d : Fin 96), i = ix4 b p x d :=
    ⟨i 0, i 1, i 2, i 3, funext fun a => match a with | ⟨0, _⟩ => rfl | ⟨1, _⟩ => rfl | ⟨2, _⟩ => rfl | ⟨3, _⟩ => rfl⟩
  exact v77_at (args m c) b p x d

theorem value_dv (c : Dev nD) : v86 (args m c) = resDv m c := by
  funext i
  obtain ⟨b, p, x, d, rfl⟩ : ∃ (b : Fin 4) (p : Fin 8192) (x : Fin 8) (d : Fin 192), i = ix4 b p x d :=
    ⟨i 0, i 1, i 2, i 3, funext fun a => match a with | ⟨0, _⟩ => rfl | ⟨1, _⟩ => rfl | ⟨2, _⟩ => rfl | ⟨3, _⟩ => rfl⟩
  exact v86_at (args m c) b p x d

/-- The reference's run ends with the three results at their values. -/
theorem run_values : θ_run defs (onTc (τ := τ) (main (F := Ideal))) ⟨m, fun _ => 0, ρ⟩ fun r => ∀ c : Dev nD,
      r.2.mem ((c.tc : Thread nD τ).loc main_v68) = resDq m c
      ∧ r.2.mem ((c.tc : Thread nD τ).loc main_v77) = resDk m c
      ∧ r.2.mem ((c.tc : Thread nD τ).loc main_v86) = resDv m c :=
  (θ_run defs _ _).mono (fun r h c =>
    ⟨(((h c).2 main_v68 (by decide)).trans (tail_dq m c)).trans (value_dq m c),
      (((h c).2 main_v77 (by decide)).trans (tail_dk m c)).trans (value_dk m c),
      (((h c).2 main_v86 (by decide)).trans (tail_dv m c)).trans (value_dv m c)⟩) (run_main m ρ)

end Cert.ReferenceIdeal.Hand
end
-- ==== Proof.lean ====
module

public import proofs.«01_k».proof.Defs
public import proofs.«01_k».proof.Proof.BitsFrame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Memories that agree on the arguments hold the same argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Hand.args m' c = Cert.KernelIdeal.Hand.args m c := by
  obtain ⟨h0, h1, h2, h3, h4, h5, h6, h7⟩ := h
  unfold Cert.ReferenceIdeal.Hand.args Cert.KernelIdeal.Hand.args
  congr 1

/-- The kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ h
  refine ⟨Cert.KernelIdeal.Hand.resDq m, Cert.KernelIdeal.Hand.resDk m, Cert.KernelIdeal.Hand.resDv m, ?_, ?_⟩
  · exact (θ_run _ _ _).mono (fun r hr c => ⟨(hr.1 c).1, (hr.1 c).2.1, (hr.1 c).2.2, hr.2 c⟩)
      (θ_run_and (Cert.KernelIdeal.Hand.run_values m g) (Cert.KernelIdeal.Hand.unchanged m g))
  · have eq : ∀ c, Cert.ReferenceIdeal.Hand.resDq m' c = Cert.KernelIdeal.Hand.resDq m c := fun c =>
      congrArg (fun A : Cert.Hand.Args => fun i : Cert.ReferenceIdeal.S4x8192x16x96.Idx => A.dq Cert.ReferenceIdeal.Hand.scale (i 0) (i 1) (i 2) (i 3)) (args_eq m m' c (h c))
    have ek : ∀ c, Cert.ReferenceIdeal.Hand.resDk m' c = Cert.KernelIdeal.Hand.resDk m c := fun c =>
      congrArg (fun A : Cert.Hand.Args => fun i : Cert.ReferenceIdeal.S4x8192x8x96.Idx => A.dk Cert.ReferenceIdeal.Hand.scale (i 0) (i 1) (i 2) (i 3)) (args_eq m m' c (h c))
    have ev : ∀ c, Cert.ReferenceIdeal.Hand.resDv m' c = Cert.KernelIdeal.Hand.resDv m c := fun c =>
      congrArg (fun A : Cert.Hand.Args => fun i : Cert.ReferenceIdeal.S4x8192x8x192.Idx => A.dv Cert.ReferenceIdeal.Hand.scale (i 0) (i 1) (i 2) (i 3)) (args_eq m m' c (h c))
    exact (θ_run _ _ _).mono (fun r hr c => ⟨(hr.1 c).1.trans (eq c), (hr.1 c).2.1.trans (ek c), (hr.1 c).2.2.trans (ev c), hr.2 c⟩)
      (θ_run_and (Cert.ReferenceIdeal.Hand.run_values m' g') (Cert.ReferenceIdeal.Gen.unchanged m' g'))

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, algebraic⟩

end Cert.Proof

end
